-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_TailSample (m : (ℓ : Loc Cert.TailSample.nD Cert.TailSample.τ Cert.TailSample.sig) → Buf (Elt Bits) ℓ) : Prop :=
  True

def Pre_TailSampleIdeal (m : (ℓ : Loc Cert.TailSampleIdeal.nD Cert.TailSampleIdeal.τ Cert.TailSampleIdeal.sig) → Buf (Elt Ideal) ℓ) : Prop :=
  True

def Pre_TailSampleRefIdeal (m : (ℓ : Loc Cert.TailSampleRefIdeal.nD Cert.TailSampleRefIdeal.τ Cert.TailSampleRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_TailSample [hTailSample : Cert.TailSample.Facts] : Prop :=
  ∀ (m : (ℓ : Loc Cert.TailSample.nD Cert.TailSample.τ Cert.TailSample.sig) → Buf (Elt Bits) ℓ) (g : Dev Cert.TailSample.nD → PrngReg), Pre_TailSample m →
    θ_run (Cert.TailSample.defs (F := Bits)) (onTc (τ := Cert.TailSample.τ) (Cert.TailSample.main (F := Bits))) ⟨m, fun _ => 0, g⟩ (fun r => (∀ c : Dev Cert.TailSample.nD,
      r.2.mem ((c.tc : Thread Cert.TailSample.nD Cert.TailSample.τ).loc Cert.TailSample.main_arg0) = m ((c.tc : Thread Cert.TailSample.nD Cert.TailSample.τ).loc Cert.TailSample.main_arg0)
      ∧ r.2.mem ((c.tc : Thread Cert.TailSample.nD Cert.TailSample.τ).loc Cert.TailSample.main_arg1) = m ((c.tc : Thread Cert.TailSample.nD Cert.TailSample.τ).loc Cert.TailSample.main_arg1)
      ∧ r.2.mem ((c.tc : Thread Cert.TailSample.nD Cert.TailSample.τ).loc Cert.TailSample.main_arg2) = m ((c.tc : Thread Cert.TailSample.nD Cert.TailSample.τ).loc Cert.TailSample.main_arg2)
      ∧ r.2.mem ((c.tc : Thread Cert.TailSample.nD Cert.TailSample.τ).loc Cert.TailSample.main_arg3) = m ((c.tc : Thread Cert.TailSample.nD Cert.TailSample.τ).loc Cert.TailSample.main_arg3)
      ∧ r.2.mem ((c.tc : Thread Cert.TailSample.nD Cert.TailSample.τ).loc Cert.TailSample.main_arg4) = m ((c.tc : Thread Cert.TailSample.nD Cert.TailSample.τ).loc Cert.TailSample.main_arg4)
      ∧ r.2.mem ((c.tc : Thread Cert.TailSample.nD Cert.TailSample.τ).loc Cert.TailSample.main_arg5) = m ((c.tc : Thread Cert.TailSample.nD Cert.TailSample.τ).loc Cert.TailSample.main_arg5)
      ∧ r.2.mem ((c.tc : Thread Cert.TailSample.nD Cert.TailSample.τ).loc Cert.TailSample.main_arg6) = m ((c.tc : Thread Cert.TailSample.nD Cert.TailSample.τ).loc Cert.TailSample.main_arg6)
      ∧ r.2.mem ((c.tc : Thread Cert.TailSample.nD Cert.TailSample.τ).loc Cert.TailSample.main_arg7) = m ((c.tc : Thread Cert.TailSample.nD Cert.TailSample.τ).loc Cert.TailSample.main_arg7)
      ∧ r.2.mem ((c.tc : Thread Cert.TailSample.nD Cert.TailSample.τ).loc Cert.TailSample.main_arg8) = m ((c.tc : Thread Cert.TailSample.nD Cert.TailSample.τ).loc Cert.TailSample.main_arg8)
      ∧ r.2.mem ((c.tc : Thread Cert.TailSample.nD Cert.TailSample.τ).loc Cert.TailSample.main_arg9) = m ((c.tc : Thread Cert.TailSample.nD Cert.TailSample.τ).loc Cert.TailSample.main_arg9)
      ∧ r.2.mem ((c.tc : Thread Cert.TailSample.nD Cert.TailSample.τ).loc Cert.TailSample.main_arg10) = m ((c.tc : Thread Cert.TailSample.nD Cert.TailSample.τ).loc Cert.TailSample.main_arg10))
      ∧ r.2.sem = fun _ => 0)

def quiescent_TailSampleIdeal [hTailSampleIdeal : Cert.TailSampleIdeal.Facts] : Prop :=
  ∀ (m : (ℓ : Loc Cert.TailSampleIdeal.nD Cert.TailSampleIdeal.τ Cert.TailSampleIdeal.sig) → Buf (Elt Ideal) ℓ) (g : Dev Cert.TailSampleIdeal.nD → PrngReg), Pre_TailSampleIdeal m →
    θ_run (Cert.TailSampleIdeal.defs (F := Ideal)) (onTc (τ := Cert.TailSampleIdeal.τ) (Cert.TailSampleIdeal.main (F := Ideal))) ⟨m, fun _ => 0, g⟩ (fun r => (∀ c : Dev Cert.TailSampleIdeal.nD,
      r.2.mem ((c.tc : Thread Cert.TailSampleIdeal.nD Cert.TailSampleIdeal.τ).loc Cert.TailSampleIdeal.main_arg0) = m ((c.tc : Thread Cert.TailSampleIdeal.nD Cert.TailSampleIdeal.τ).loc Cert.TailSampleIdeal.main_arg0)
      ∧ r.2.mem ((c.tc : Thread Cert.TailSampleIdeal.nD Cert.TailSampleIdeal.τ).loc Cert.TailSampleIdeal.main_arg1) = m ((c.tc : Thread Cert.TailSampleIdeal.nD Cert.TailSampleIdeal.τ).loc Cert.TailSampleIdeal.main_arg1)
      ∧ r.2.mem ((c.tc : Thread Cert.TailSampleIdeal.nD Cert.TailSampleIdeal.τ).loc Cert.TailSampleIdeal.main_arg2) = m ((c.tc : Thread Cert.TailSampleIdeal.nD Cert.TailSampleIdeal.τ).loc Cert.TailSampleIdeal.main_arg2)
      ∧ r.2.mem ((c.tc : Thread Cert.TailSampleIdeal.nD Cert.TailSampleIdeal.τ).loc Cert.TailSampleIdeal.main_arg3) = m ((c.tc : Thread Cert.TailSampleIdeal.nD Cert.TailSampleIdeal.τ).loc Cert.TailSampleIdeal.main_arg3)
      ∧ r.2.mem ((c.tc : Thread Cert.TailSampleIdeal.nD Cert.TailSampleIdeal.τ).loc Cert.TailSampleIdeal.main_arg4) = m ((c.tc : Thread Cert.TailSampleIdeal.nD Cert.TailSampleIdeal.τ).loc Cert.TailSampleIdeal.main_arg4)
      ∧ r.2.mem ((c.tc : Thread Cert.TailSampleIdeal.nD Cert.TailSampleIdeal.τ).loc Cert.TailSampleIdeal.main_arg5) = m ((c.tc : Thread Cert.TailSampleIdeal.nD Cert.TailSampleIdeal.τ).loc Cert.TailSampleIdeal.main_arg5)
      ∧ r.2.mem ((c.tc : Thread Cert.TailSampleIdeal.nD Cert.TailSampleIdeal.τ).loc Cert.TailSampleIdeal.main_arg6) = m ((c.tc : Thread Cert.TailSampleIdeal.nD Cert.TailSampleIdeal.τ).loc Cert.TailSampleIdeal.main_arg6)
      ∧ r.2.mem ((c.tc : Thread Cert.TailSampleIdeal.nD Cert.TailSampleIdeal.τ).loc Cert.TailSampleIdeal.main_arg7) = m ((c.tc : Thread Cert.TailSampleIdeal.nD Cert.TailSampleIdeal.τ).loc Cert.TailSampleIdeal.main_arg7)
      ∧ r.2.mem ((c.tc : Thread Cert.TailSampleIdeal.nD Cert.TailSampleIdeal.τ).loc Cert.TailSampleIdeal.main_arg8) = m ((c.tc : Thread Cert.TailSampleIdeal.nD Cert.TailSampleIdeal.τ).loc Cert.TailSampleIdeal.main_arg8)
      ∧ r.2.mem ((c.tc : Thread Cert.TailSampleIdeal.nD Cert.TailSampleIdeal.τ).loc Cert.TailSampleIdeal.main_arg9) = m ((c.tc : Thread Cert.TailSampleIdeal.nD Cert.TailSampleIdeal.τ).loc Cert.TailSampleIdeal.main_arg9)
      ∧ r.2.mem ((c.tc : Thread Cert.TailSampleIdeal.nD Cert.TailSampleIdeal.τ).loc Cert.TailSampleIdeal.main_arg10) = m ((c.tc : Thread Cert.TailSampleIdeal.nD Cert.TailSampleIdeal.τ).loc Cert.TailSampleIdeal.main_arg10))
      ∧ r.2.sem = fun _ => 0)

def quiescent_TailSampleRefIdeal [hTailSampleRefIdeal : Cert.TailSampleRefIdeal.Facts] : Prop :=
  ∀ (m : (ℓ : Loc Cert.TailSampleRefIdeal.nD Cert.TailSampleRefIdeal.τ Cert.TailSampleRefIdeal.sig) → Buf (Elt Ideal) ℓ) (g : Dev Cert.TailSampleRefIdeal.nD → PrngReg), Pre_TailSampleRefIdeal m →
    θ_run (Cert.TailSampleRefIdeal.defs (F := Ideal)) (onTc (τ := Cert.TailSampleRefIdeal.τ) (Cert.TailSampleRefIdeal.main (F := Ideal))) ⟨m, fun _ => 0, g⟩ (fun r => (∀ c : Dev Cert.TailSampleRefIdeal.nD,
      r.2.mem ((c.tc : Thread Cert.TailSampleRefIdeal.nD Cert.TailSampleRefIdeal.τ).loc Cert.TailSampleRefIdeal.main_arg0) = m ((c.tc : Thread Cert.TailSampleRefIdeal.nD Cert.TailSampleRefIdeal.τ).loc Cert.TailSampleRefIdeal.main_arg0)
      ∧ r.2.mem ((c.tc : Thread Cert.TailSampleRefIdeal.nD Cert.TailSampleRefIdeal.τ).loc Cert.TailSampleRefIdeal.main_arg1) = m ((c.tc : Thread Cert.TailSampleRefIdeal.nD Cert.TailSampleRefIdeal.τ).loc Cert.TailSampleRefIdeal.main_arg1)
      ∧ r.2.mem ((c.tc : Thread Cert.TailSampleRefIdeal.nD Cert.TailSampleRefIdeal.τ).loc Cert.TailSampleRefIdeal.main_arg2) = m ((c.tc : Thread Cert.TailSampleRefIdeal.nD Cert.TailSampleRefIdeal.τ).loc Cert.TailSampleRefIdeal.main_arg2)
      ∧ r.2.mem ((c.tc : Thread Cert.TailSampleRefIdeal.nD Cert.TailSampleRefIdeal.τ).loc Cert.TailSampleRefIdeal.main_arg3) = m ((c.tc : Thread Cert.TailSampleRefIdeal.nD Cert.TailSampleRefIdeal.τ).loc Cert.TailSampleRefIdeal.main_arg3)
      ∧ r.2.mem ((c.tc : Thread Cert.TailSampleRefIdeal.nD Cert.TailSampleRefIdeal.τ).loc Cert.TailSampleRefIdeal.main_arg4) = m ((c.tc : Thread Cert.TailSampleRefIdeal.nD Cert.TailSampleRefIdeal.τ).loc Cert.TailSampleRefIdeal.main_arg4)
      ∧ r.2.mem ((c.tc : Thread Cert.TailSampleRefIdeal.nD Cert.TailSampleRefIdeal.τ).loc Cert.TailSampleRefIdeal.main_arg5) = m ((c.tc : Thread Cert.TailSampleRefIdeal.nD Cert.TailSampleRefIdeal.τ).loc Cert.TailSampleRefIdeal.main_arg5)
      ∧ r.2.mem ((c.tc : Thread Cert.TailSampleRefIdeal.nD Cert.TailSampleRefIdeal.τ).loc Cert.TailSampleRefIdeal.main_arg6) = m ((c.tc : Thread Cert.TailSampleRefIdeal.nD Cert.TailSampleRefIdeal.τ).loc Cert.TailSampleRefIdeal.main_arg6)
      ∧ r.2.mem ((c.tc : Thread Cert.TailSampleRefIdeal.nD Cert.TailSampleRefIdeal.τ).loc Cert.TailSampleRefIdeal.main_arg7) = m ((c.tc : Thread Cert.TailSampleRefIdeal.nD Cert.TailSampleRefIdeal.τ).loc Cert.TailSampleRefIdeal.main_arg7)
      ∧ r.2.mem ((c.tc : Thread Cert.TailSampleRefIdeal.nD Cert.TailSampleRefIdeal.τ).loc Cert.TailSampleRefIdeal.main_arg8) = m ((c.tc : Thread Cert.TailSampleRefIdeal.nD Cert.TailSampleRefIdeal.τ).loc Cert.TailSampleRefIdeal.main_arg8)
      ∧ r.2.mem ((c.tc : Thread Cert.TailSampleRefIdeal.nD Cert.TailSampleRefIdeal.τ).loc Cert.TailSampleRefIdeal.main_arg9) = m ((c.tc : Thread Cert.TailSampleRefIdeal.nD Cert.TailSampleRefIdeal.τ).loc Cert.TailSampleRefIdeal.main_arg9)
      ∧ r.2.mem ((c.tc : Thread Cert.TailSampleRefIdeal.nD Cert.TailSampleRefIdeal.τ).loc Cert.TailSampleRefIdeal.main_arg10) = m ((c.tc : Thread Cert.TailSampleRefIdeal.nD Cert.TailSampleRefIdeal.τ).loc Cert.TailSampleRefIdeal.main_arg10))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v4) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v52) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Mix_MixIdeal : Prop :=
  IdealRules.named_const.Statement Cert.MixIdeal.κ "decay0" .f32 0xBD020AEC#32 ((Real.log (31 / 32) : ℝ) : EReal)
  ∧ IdealRules.named_const.Statement Cert.MixIdeal.κ "decay1" .f32 0xBC8102B3#32 ((Real.log (63 / 64) : ℝ) : EReal)
  ∧ IdealRules.named_const.Statement Cert.MixIdeal.κ "decay2" .f32 0xBC0080AC#32 ((Real.log (127 / 128) : ℝ) : EReal)
  ∧ IdealRules.named_const.Statement Cert.MixIdeal.κ "decay3" .f32 0xBB80402B#32 ((Real.log (255 / 256) : ℝ) : EReal)
  ∧ IdealRules.named_const.Statement Cert.MixIdeal.κ "decay_chunk0" .f32 0x3E063AE5#32 ((279993793990258235750468749959300213014699042596341116563305503247751586492770004816505534904321 / 2135987035920910082395021706169552114602704522356652769947041607822219725780640550022962086936576 : ℝ) : EReal)
  ∧ IdealRules.named_const.Statement Cert.MixIdeal.κ "decay_chunk1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.MixIdeal.κ "decay_chunk2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.MixIdeal.κ "decay_chunk3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v30)) (v1 : (c : Dev Cert.MixIdeal.nD) → Buf (Elt Ideal) ((c.tc : Thread Cert.MixIdeal.nD Cert.MixIdeal.τ).loc Cert.MixIdeal.main_v29_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v30) = v0 c
          ∧ r.2.mem ((c.tc : Thread Cert.MixIdeal.nD Cert.MixIdeal.τ).loc Cert.MixIdeal.main_v29_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v88) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_TailSample_TailSampleIdeal : Prop :=
  True

def algebraic_TailSampleIdeal_TailSampleRefIdeal [hTailSampleIdeal : Cert.TailSampleIdeal.Facts] [hTailSampleRefIdeal : Cert.TailSampleRefIdeal.Facts] : Prop :=
  ∀ (m : (ℓ : Loc Cert.TailSampleIdeal.nD Cert.TailSampleIdeal.τ Cert.TailSampleIdeal.sig) → Buf (Elt Ideal) ℓ) (g : Dev Cert.TailSampleIdeal.nD → PrngReg)
    (m' : (ℓ : Loc Cert.TailSampleRefIdeal.nD Cert.TailSampleRefIdeal.τ Cert.TailSampleRefIdeal.sig) → Buf (Elt Ideal) ℓ) (g' : Dev Cert.TailSampleRefIdeal.nD → PrngReg), Pre_TailSampleIdeal m →
    (∀ c : Dev Cert.TailSampleIdeal.nD,
      m' ((c.tc : Thread Cert.TailSampleRefIdeal.nD Cert.TailSampleRefIdeal.τ).loc Cert.TailSampleRefIdeal.main_arg0) = m ((c.tc : Thread Cert.TailSampleIdeal.nD Cert.TailSampleIdeal.τ).loc Cert.TailSampleIdeal.main_arg0)
      ∧ m' ((c.tc : Thread Cert.TailSampleRefIdeal.nD Cert.TailSampleRefIdeal.τ).loc Cert.TailSampleRefIdeal.main_arg1) = m ((c.tc : Thread Cert.TailSampleIdeal.nD Cert.TailSampleIdeal.τ).loc Cert.TailSampleIdeal.main_arg1)
      ∧ m' ((c.tc : Thread Cert.TailSampleRefIdeal.nD Cert.TailSampleRefIdeal.τ).loc Cert.TailSampleRefIdeal.main_arg2) = m ((c.tc : Thread Cert.TailSampleIdeal.nD Cert.TailSampleIdeal.τ).loc Cert.TailSampleIdeal.main_arg2)
      ∧ m' ((c.tc : Thread Cert.TailSampleRefIdeal.nD Cert.TailSampleRefIdeal.τ).loc Cert.TailSampleRefIdeal.main_arg3) = m ((c.tc : Thread Cert.TailSampleIdeal.nD Cert.TailSampleIdeal.τ).loc Cert.TailSampleIdeal.main_arg3)
      ∧ m' ((c.tc : Thread Cert.TailSampleRefIdeal.nD Cert.TailSampleRefIdeal.τ).loc Cert.TailSampleRefIdeal.main_arg4) = m ((c.tc : Thread Cert.TailSampleIdeal.nD Cert.TailSampleIdeal.τ).loc Cert.TailSampleIdeal.main_arg4)
      ∧ m' ((c.tc : Thread Cert.TailSampleRefIdeal.nD Cert.TailSampleRefIdeal.τ).loc Cert.TailSampleRefIdeal.main_arg5) = m ((c.tc : Thread Cert.TailSampleIdeal.nD Cert.TailSampleIdeal.τ).loc Cert.TailSampleIdeal.main_arg5)
      ∧ m' ((c.tc : Thread Cert.TailSampleRefIdeal.nD Cert.TailSampleRefIdeal.τ).loc Cert.TailSampleRefIdeal.main_arg6) = m ((c.tc : Thread Cert.TailSampleIdeal.nD Cert.TailSampleIdeal.τ).loc Cert.TailSampleIdeal.main_arg6)
      ∧ m' ((c.tc : Thread Cert.TailSampleRefIdeal.nD Cert.TailSampleRefIdeal.τ).loc Cert.TailSampleRefIdeal.main_arg7) = m ((c.tc : Thread Cert.TailSampleIdeal.nD Cert.TailSampleIdeal.τ).loc Cert.TailSampleIdeal.main_arg7)
      ∧ m' ((c.tc : Thread Cert.TailSampleRefIdeal.nD Cert.TailSampleRefIdeal.τ).loc Cert.TailSampleRefIdeal.main_arg8) = m ((c.tc : Thread Cert.TailSampleIdeal.nD Cert.TailSampleIdeal.τ).loc Cert.TailSampleIdeal.main_arg8)
      ∧ m' ((c.tc : Thread Cert.TailSampleRefIdeal.nD Cert.TailSampleRefIdeal.τ).loc Cert.TailSampleRefIdeal.main_arg9) = m ((c.tc : Thread Cert.TailSampleIdeal.nD Cert.TailSampleIdeal.τ).loc Cert.TailSampleIdeal.main_arg9)
      ∧ m' ((c.tc : Thread Cert.TailSampleRefIdeal.nD Cert.TailSampleRefIdeal.τ).loc Cert.TailSampleRefIdeal.main_arg10) = m ((c.tc : Thread Cert.TailSampleIdeal.nD Cert.TailSampleIdeal.τ).loc Cert.TailSampleIdeal.main_arg10)) →
    ∃ (v0 : (c : Dev Cert.TailSampleIdeal.nD) → Buf (Elt Ideal) ((c.tc : Thread Cert.TailSampleIdeal.nD Cert.TailSampleIdeal.τ).loc Cert.TailSampleIdeal.main_v4)),
      θ_run (Cert.TailSampleIdeal.defs (F := Ideal)) (onTc (τ := Cert.TailSampleIdeal.τ) (Cert.TailSampleIdeal.main (F := Ideal))) ⟨m, fun _ => 0, g⟩ (fun r => ∀ c : Dev Cert.TailSampleIdeal.nD,
          r.2.mem ((c.tc : Thread Cert.TailSampleIdeal.nD Cert.TailSampleIdeal.τ).loc Cert.TailSampleIdeal.main_v4) = v0 c
          ∧ r.2.mem ((c.tc : Thread Cert.TailSampleIdeal.nD Cert.TailSampleIdeal.τ).loc Cert.TailSampleIdeal.main_arg0) = m ((c.tc : Thread Cert.TailSampleIdeal.nD Cert.TailSampleIdeal.τ).loc Cert.TailSampleIdeal.main_arg0)
          ∧ r.2.mem ((c.tc : Thread Cert.TailSampleIdeal.nD Cert.TailSampleIdeal.τ).loc Cert.TailSampleIdeal.main_arg1) = m ((c.tc : Thread Cert.TailSampleIdeal.nD Cert.TailSampleIdeal.τ).loc Cert.TailSampleIdeal.main_arg1)
          ∧ r.2.mem ((c.tc : Thread Cert.TailSampleIdeal.nD Cert.TailSampleIdeal.τ).loc Cert.TailSampleIdeal.main_arg2) = m ((c.tc : Thread Cert.TailSampleIdeal.nD Cert.TailSampleIdeal.τ).loc Cert.TailSampleIdeal.main_arg2)
          ∧ r.2.mem ((c.tc : Thread Cert.TailSampleIdeal.nD Cert.TailSampleIdeal.τ).loc Cert.TailSampleIdeal.main_arg3) = m ((c.tc : Thread Cert.TailSampleIdeal.nD Cert.TailSampleIdeal.τ).loc Cert.TailSampleIdeal.main_arg3)
          ∧ r.2.mem ((c.tc : Thread Cert.TailSampleIdeal.nD Cert.TailSampleIdeal.τ).loc Cert.TailSampleIdeal.main_arg4) = m ((c.tc : Thread Cert.TailSampleIdeal.nD Cert.TailSampleIdeal.τ).loc Cert.TailSampleIdeal.main_arg4)
          ∧ r.2.mem ((c.tc : Thread Cert.TailSampleIdeal.nD Cert.TailSampleIdeal.τ).loc Cert.TailSampleIdeal.main_arg5) = m ((c.tc : Thread Cert.TailSampleIdeal.nD Cert.TailSampleIdeal.τ).loc Cert.TailSampleIdeal.main_arg5)
          ∧ r.2.mem ((c.tc : Thread Cert.TailSampleIdeal.nD Cert.TailSampleIdeal.τ).loc Cert.TailSampleIdeal.main_arg6) = m ((c.tc : Thread Cert.TailSampleIdeal.nD Cert.TailSampleIdeal.τ).loc Cert.TailSampleIdeal.main_arg6)
          ∧ r.2.mem ((c.tc : Thread Cert.TailSampleIdeal.nD Cert.TailSampleIdeal.τ).loc Cert.TailSampleIdeal.main_arg7) = m ((c.tc : Thread Cert.TailSampleIdeal.nD Cert.TailSampleIdeal.τ).loc Cert.TailSampleIdeal.main_arg7)
          ∧ r.2.mem ((c.tc : Thread Cert.TailSampleIdeal.nD Cert.TailSampleIdeal.τ).loc Cert.TailSampleIdeal.main_arg8) = m ((c.tc : Thread Cert.TailSampleIdeal.nD Cert.TailSampleIdeal.τ).loc Cert.TailSampleIdeal.main_arg8)
          ∧ r.2.mem ((c.tc : Thread Cert.TailSampleIdeal.nD Cert.TailSampleIdeal.τ).loc Cert.TailSampleIdeal.main_arg9) = m ((c.tc : Thread Cert.TailSampleIdeal.nD Cert.TailSampleIdeal.τ).loc Cert.TailSampleIdeal.main_arg9)
          ∧ r.2.mem ((c.tc : Thread Cert.TailSampleIdeal.nD Cert.TailSampleIdeal.τ).loc Cert.TailSampleIdeal.main_arg10) = m ((c.tc : Thread Cert.TailSampleIdeal.nD Cert.TailSampleIdeal.τ).loc Cert.TailSampleIdeal.main_arg10))
      ∧ θ_run (Cert.TailSampleRefIdeal.defs (F := Ideal)) (onTc (τ := Cert.TailSampleRefIdeal.τ) (Cert.TailSampleRefIdeal.main (F := Ideal))) ⟨m', fun _ => 0, g'⟩ (fun r => ∀ c : Dev Cert.TailSampleRefIdeal.nD,
          r.2.mem ((c.tc : Thread Cert.TailSampleRefIdeal.nD Cert.TailSampleRefIdeal.τ).loc Cert.TailSampleRefIdeal.main_v52) = v0 c
          ∧ r.2.mem ((c.tc : Thread Cert.TailSampleRefIdeal.nD Cert.TailSampleRefIdeal.τ).loc Cert.TailSampleRefIdeal.main_arg0) = m' ((c.tc : Thread Cert.TailSampleRefIdeal.nD Cert.TailSampleRefIdeal.τ).loc Cert.TailSampleRefIdeal.main_arg0)
          ∧ r.2.mem ((c.tc : Thread Cert.TailSampleRefIdeal.nD Cert.TailSampleRefIdeal.τ).loc Cert.TailSampleRefIdeal.main_arg1) = m' ((c.tc : Thread Cert.TailSampleRefIdeal.nD Cert.TailSampleRefIdeal.τ).loc Cert.TailSampleRefIdeal.main_arg1)
          ∧ r.2.mem ((c.tc : Thread Cert.TailSampleRefIdeal.nD Cert.TailSampleRefIdeal.τ).loc Cert.TailSampleRefIdeal.main_arg2) = m' ((c.tc : Thread Cert.TailSampleRefIdeal.nD Cert.TailSampleRefIdeal.τ).loc Cert.TailSampleRefIdeal.main_arg2)
          ∧ r.2.mem ((c.tc : Thread Cert.TailSampleRefIdeal.nD Cert.TailSampleRefIdeal.τ).loc Cert.TailSampleRefIdeal.main_arg3) = m' ((c.tc : Thread Cert.TailSampleRefIdeal.nD Cert.TailSampleRefIdeal.τ).loc Cert.TailSampleRefIdeal.main_arg3)
          ∧ r.2.mem ((c.tc : Thread Cert.TailSampleRefIdeal.nD Cert.TailSampleRefIdeal.τ).loc Cert.TailSampleRefIdeal.main_arg4) = m' ((c.tc : Thread Cert.TailSampleRefIdeal.nD Cert.TailSampleRefIdeal.τ).loc Cert.TailSampleRefIdeal.main_arg4)
          ∧ r.2.mem ((c.tc : Thread Cert.TailSampleRefIdeal.nD Cert.TailSampleRefIdeal.τ).loc Cert.TailSampleRefIdeal.main_arg5) = m' ((c.tc : Thread Cert.TailSampleRefIdeal.nD Cert.TailSampleRefIdeal.τ).loc Cert.TailSampleRefIdeal.main_arg5)
          ∧ r.2.mem ((c.tc : Thread Cert.TailSampleRefIdeal.nD Cert.TailSampleRefIdeal.τ).loc Cert.TailSampleRefIdeal.main_arg6) = m' ((c.tc : Thread Cert.TailSampleRefIdeal.nD Cert.TailSampleRefIdeal.τ).loc Cert.TailSampleRefIdeal.main_arg6)
          ∧ r.2.mem ((c.tc : Thread Cert.TailSampleRefIdeal.nD Cert.TailSampleRefIdeal.τ).loc Cert.TailSampleRefIdeal.main_arg7) = m' ((c.tc : Thread Cert.TailSampleRefIdeal.nD Cert.TailSampleRefIdeal.τ).loc Cert.TailSampleRefIdeal.main_arg7)
          ∧ r.2.mem ((c.tc : Thread Cert.TailSampleRefIdeal.nD Cert.TailSampleRefIdeal.τ).loc Cert.TailSampleRefIdeal.main_arg8) = m' ((c.tc : Thread Cert.TailSampleRefIdeal.nD Cert.TailSampleRefIdeal.τ).loc Cert.TailSampleRefIdeal.main_arg8)
          ∧ r.2.mem ((c.tc : Thread Cert.TailSampleRefIdeal.nD Cert.TailSampleRefIdeal.τ).loc Cert.TailSampleRefIdeal.main_arg9) = m' ((c.tc : Thread Cert.TailSampleRefIdeal.nD Cert.TailSampleRefIdeal.τ).loc Cert.TailSampleRefIdeal.main_arg9)
          ∧ r.2.mem ((c.tc : Thread Cert.TailSampleRefIdeal.nD Cert.TailSampleRefIdeal.τ).loc Cert.TailSampleRefIdeal.main_arg10) = m' ((c.tc : Thread Cert.TailSampleRefIdeal.nD Cert.TailSampleRefIdeal.τ).loc Cert.TailSampleRefIdeal.main_arg10))

def Claim : Prop :=
  ∃ (hTail : Cert.Tail.Facts) (hTailIdeal : Cert.TailIdeal.Facts) (hTailRefIdeal : Cert.TailRefIdeal.Facts) (hMix : Cert.Mix.Facts) (hMixIdeal : Cert.MixIdeal.Facts) (hMixRefIdeal : Cert.MixRefIdeal.Facts) (hTailSample : Cert.TailSample.Facts) (hTailSampleIdeal : Cert.TailSampleIdeal.Facts) (hTailSampleRefIdeal : Cert.TailSampleRefIdeal.Facts),
    quiescent_Tail (hTail := hTail)
    ∧ quiescent_TailIdeal (hTailIdeal := hTailIdeal)
    ∧ quiescent_TailRefIdeal (hTailRefIdeal := hTailRefIdeal)
    ∧ quiescent_Mix (hMix := hMix)
    ∧ quiescent_MixIdeal (hMixIdeal := hMixIdeal)
    ∧ quiescent_MixRefIdeal (hMixRefIdeal := hMixRefIdeal)
    ∧ quiescent_TailSample (hTailSample := hTailSample)
    ∧ quiescent_TailSampleIdeal (hTailSampleIdeal := hTailSampleIdeal)
    ∧ quiescent_TailSampleRefIdeal (hTailSampleRefIdeal := hTailSampleRefIdeal)
    ∧ preserves_Tail_TailIdeal
    ∧ algebraic_TailIdeal_TailRefIdeal (hTailIdeal := hTailIdeal) (hTailRefIdeal := hTailRefIdeal)
    ∧ preserves_Mix_MixIdeal
    ∧ algebraic_MixIdeal_MixRefIdeal (hMixIdeal := hMixIdeal) (hMixRefIdeal := hMixRefIdeal)
    ∧ preserves_TailSample_TailSampleIdeal
    ∧ algebraic_TailSampleIdeal_TailSampleRefIdeal (hTailSampleIdeal := hTailSampleIdeal) (hTailSampleRefIdeal := hTailSampleRefIdeal)
-- ==== Tail.lean ====
abbrev S16384x1024 : Shape := ⟨2, ![16384, 1024]⟩
abbrev S16384x256 : Shape := ⟨2, ![16384, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1024 : Shape := ⟨1, ![1024]⟩
abbrev S512x1024 : Shape := ⟨2, ![512, 1024]⟩
abbrev S512x256 : Shape := ⟨2, ![512, 256]⟩
abbrev S9 : Shape := ⟨1, ![9]⟩
abbrev S1 : Shape := ⟨1, ![1]⟩
abbrev S_ : Shape := ⟨0, ![]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S256 : Shape := ⟨1, ![256]⟩
abbrev S256x1 : Shape := ⟨2, ![256, 1]⟩
abbrev S256x1536 : Shape := ⟨2, ![256, 1536]⟩
abbrev S512x1536 : Shape := ⟨2, ![512, 1536]⟩
abbrev S512x1280 : Shape := ⟨2, ![512, 1280]⟩
abbrev S256x1280 : Shape := ⟨2, ![256, 1280]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S1024x1024, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S256x1024, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TailIdeal.lean ====
abbrev S16384x1024 : Shape := ⟨2, ![16384, 1024]⟩
abbrev S16384x256 : Shape := ⟨2, ![16384, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1024 : Shape := ⟨1, ![1024]⟩
abbrev S512x1024 : Shape := ⟨2, ![512, 1024]⟩
abbrev S512x256 : Shape := ⟨2, ![512, 256]⟩
abbrev S9 : Shape := ⟨1, ![9]⟩
abbrev S1 : Shape := ⟨1, ![1]⟩
abbrev S_ : Shape := ⟨0, ![]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S256 : Shape := ⟨1, ![256]⟩
abbrev S256x1 : Shape := ⟨2, ![256, 1]⟩
abbrev S256x1536 : Shape := ⟨2, ![256, 1536]⟩
abbrev S512x1536 : Shape := ⟨2, ![512, 1536]⟩
abbrev S512x1280 : Shape := ⟨2, ![512, 1280]⟩
abbrev S256x1280 : Shape := ⟨2, ![256, 1280]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S1024x1024, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S256x1024, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TailRefIdeal.lean ====
abbrev S16384x1024 : Shape := ⟨2, ![16384, 1024]⟩
abbrev S16384x256 : Shape := ⟨2, ![16384, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S1024x1024, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1024x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S1024x2816, .f32⟩
  | .hbm, ⟨44, _⟩ => ⟨S16384x2816, .f32⟩
  | .hbm, ⟨45, _⟩ => ⟨S16384x2816, .f32⟩
  | .hbm, ⟨46, _⟩ => ⟨S2816x1024, .f32⟩
  | .hbm, ⟨47, _⟩ => ⟨S16384x1024, .f32⟩
  | .hbm, ⟨48, _⟩ => ⟨S16384x1024, .f32⟩
  | .hbm, ⟨49, _⟩ => ⟨S1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S1024x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S256x1024, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Mix.lean ====
abbrev S2048x512 : Shape := ⟨2, ![2048, 512]⟩
abbrev S1x32x512x8x64 : Shape := ⟨5, ![1, 32, 512, 8, 64]⟩
abbrev S1x32x4x128x128 : Shape := ⟨5, ![1, 32, 4, 128, 128]⟩
abbrev S1x4x128 : Shape := ⟨3, ![1, 4, 128]⟩
abbrev S1x8x513 : Shape := ⟨3, ![1, 8, 513]⟩
abbrev S4x128 : Shape := ⟨2, ![4, 128]⟩
abbrev S1x512 : Shape := ⟨2, ![1, 512]⟩
abbrev S8x513 : Shape := ⟨2, ![8, 513]⟩
abbrev S8x1 : Shape := ⟨2, ![8, 1]⟩
abbrev S8x512 : Shape := ⟨2, ![8, 512]⟩
abbrev S8x1024 : Shape := ⟨2, ![8, 1024]⟩
abbrev S_ : Shape := ⟨0, ![]⟩
abbrev S16x128x512 : Shape := ⟨3, ![16, 128, 512]⟩
abbrev S16x512x128 : Shape := ⟨3, ![16, 512, 128]⟩
abbrev S32x512x8x64 : Shape := ⟨4, ![32, 512, 8, 64]⟩
abbrev S32x8x64x512 : Shape := ⟨4, ![32, 8, 64, 512]⟩
abbrev S32x512x512 : Shape := ⟨3, ![32, 512, 512]⟩
abbrev S32x4x128x128 : Shape := ⟨4, ![32, 4, 128, 128]⟩
abbrev S2048x1024 : Shape := ⟨2, ![2048, 1024]⟩
abbrev S128x512 : Shape := ⟨2, ![128, 512]⟩
abbrev S1x512x128 : Shape := ⟨3, ![1, 512, 128]⟩
abbrev S2x512x512 : Shape := ⟨3, ![2, 512, 512]⟩
abbrev S2x4x128x128 : Shape := ⟨4, ![2, 4, 128, 128]⟩
abbrev S128x1024 : Shape := ⟨2, ![128, 1024]⟩
abbrev S4x128x768 : Shape := ⟨3, ![4, 128, 768]⟩
abbrev S4x64x64 : Shape := ⟨3, ![4, 64, 64]⟩
abbrev S64x512 : Shape := ⟨2, ![64, 512]⟩
abbrev S64x64 : Shape := ⟨2, ![64, 64]⟩
abbrev S64x128 : Shape := ⟨2, ![64, 128]⟩
abbrev S1x64x64 : Shape := ⟨3, ![1, 64, 64]⟩
abbrev S8x128 : Shape := ⟨2, ![8, 128]⟩
abbrev S64x1024 : Shape := ⟨2, ![64, 1024]⟩
abbrev S1x1024 : Shape := ⟨2, ![1, 1024]⟩
abbrev S1x8x512 : Shape := ⟨3, ![1, 8, 512]⟩
abbrev S1x8x128 : Shape := ⟨3, ![1, 8, 128]⟩
abbrev S16x512 : Shape := ⟨2, ![16, 512]⟩
abbrev S128x128 : Shape := ⟨2, ![128, 128]⟩
abbrev S1x128x512 : Shape := ⟨3, ![1, 128, 512]⟩
abbrev S1x128x128 : Shape := ⟨3, ![1, 128, 128]⟩
abbrev S1x1x128x128 : Shape := ⟨4, ![1, 1, 128, 128]⟩
abbrev S1x128 : Shape := ⟨2, ![1, 128]⟩
abbrev S64 : Shape := ⟨1, ![64]⟩
abbrev S64x1 : Shape := ⟨2, ![64, 1]⟩
abbrev S128 : Shape := ⟨1, ![128]⟩
abbrev S128x1 : Shape := ⟨2, ![128, 1]⟩
abbrev S144x512 : Shape := ⟨2, ![144, 512]⟩
abbrev S16x128 : Shape := ⟨2, ![16, 128]⟩
abbrev S144x128 : Shape := ⟨2, ![144, 128]⟩

abbrev nBuf : Space → Nat
  | .hbm => 73
  | .vmem => 32
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .f32⟩
  | .hbm, ⟨5, _⟩ => ⟨S2048x512, .bf16⟩
  | .hbm, ⟨6, _⟩ => ⟨S2048x512, .bf16⟩
  | .hbm, ⟨7, _⟩ => ⟨S1x32x512x8x64, .f32⟩
  | .hbm, ⟨8, _⟩ => ⟨S1x32x512x8x64, .f32⟩
  | .hbm, ⟨9, _⟩ => ⟨S1x32x4x128x128, .f32⟩
  | .hbm, ⟨10, _⟩ => ⟨S1x4x128, .f32⟩
  | .hbm, ⟨11, _⟩ => ⟨S1x8x513, .f32⟩
  | .hbm, ⟨12, _⟩ => ⟨S4x128, .f32⟩
  | .hbm, ⟨13, _⟩ => ⟨S1x512, .f32⟩
  | .hbm, ⟨14, _⟩ => ⟨S8x513, .f32⟩
  | .hbm, ⟨15, _⟩ => ⟨S8x1, .f32⟩
  | .hbm, ⟨16, _⟩ => ⟨S8x512, .f32⟩
  | .hbm, ⟨17, _⟩ => ⟨S8x512, .f32⟩
  | .hbm, ⟨18, _⟩ => ⟨S8x512, .f32⟩
  | .hbm, ⟨19, _⟩ => ⟨S8x1024, .f32⟩
  | .hbm, ⟨20, _⟩ => ⟨S8x512, .f32⟩
  | .hbm, ⟨21, _⟩ => ⟨S8x1024, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048x512, .i32⟩
  | .hbm, ⟨33, _⟩ => ⟨S2048x512, .i32⟩
  | .hbm, ⟨34, _⟩ => ⟨S_, .i32⟩
  | .hbm, ⟨35, _⟩ => ⟨S2048x512, .i32⟩
  | .hbm, ⟨36, _⟩ => ⟨S2048x512, .i1⟩
  | .hbm, ⟨37, _⟩ => ⟨S_, .i32⟩
  | .hbm, ⟨38, _⟩ => ⟨S2048x512, .i32⟩
  | .hbm, ⟨39, _⟩ => ⟨S2048x512, .i1⟩
  | .hbm, ⟨40, _⟩ => ⟨S_, .i32⟩
  | .hbm, ⟨41, _⟩ => ⟨S_, .i1⟩
  | .hbm, ⟨42, _⟩ => ⟨S2048x512, .i1⟩
  | .hbm, ⟨43, _⟩ => ⟨S2048x512, .i1⟩
  | .hbm, ⟨44, _⟩ => ⟨S2048x512, .i1⟩
  | .hbm, ⟨45, _⟩ => ⟨S2048x512, .i32⟩
  | .hbm, ⟨46, _⟩ => ⟨S2048x512, .i32⟩
  | .hbm, ⟨47, _⟩ => ⟨S2048x512, .i32⟩
  | .hbm, ⟨48, _⟩ => ⟨S_, .i32⟩
  | .hbm, ⟨49, _⟩ => ⟨S2048x512, .i32⟩
  | .hbm, ⟨50, _⟩ => ⟨S2048x512, .i1⟩
  | .hbm, ⟨51, _⟩ => ⟨S_, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S2048x512, .bf16⟩
  | .hbm, ⟨56, _⟩ => ⟨S_, .f32⟩
  | .hbm, ⟨57, _⟩ => ⟨S_, .f32⟩
  | .hbm, ⟨58, _⟩ => ⟨S2048x512, .f32⟩
  | .hbm, ⟨59, _⟩ => ⟨S2048x512, .f32⟩
  | .hbm, ⟨60, _⟩ => ⟨S2048x512, .bf16⟩
  | .hbm, ⟨61, _⟩ => ⟨S16x128x512, .bf16⟩
  | .hbm, ⟨62, _⟩ => ⟨S16x512x128, .bf16⟩
  | .hbm, ⟨63, _⟩ => ⟨S32x512x8x64, .f32⟩
  | .hbm, ⟨64, _⟩ => ⟨S32x8x64x512, .f32⟩
  | .hbm, ⟨65, _⟩ => ⟨S32x512x512, .f32⟩
  | .hbm, ⟨66, _⟩ => ⟨S32x512x8x64, .f32⟩
  | .hbm, ⟨67, _⟩ => ⟨S32x8x64x512, .f32⟩
  | .hbm, ⟨68, _⟩ => ⟨S32x512x512, .f32⟩
  | .hbm, ⟨69, _⟩ => ⟨S32x4x128x128, .f32⟩
  | .hbm, ⟨70, _⟩ => ⟨S2048x1024, .bf16⟩
  | .hbm, ⟨71, _⟩ => ⟨S32x4x128x128, .f32⟩
  | .hbm, ⟨72, _⟩ => ⟨S2048x512, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1x512x128, .bf16⟩
  | .local _ .vmem, ⟨15, _⟩ => ⟨S1x512x128, .bf16⟩
  | .local _ .vmem, ⟨16, _⟩ => ⟨S2x512x512, .f32⟩
  | .local _ .vmem, ⟨17, _⟩ => ⟨S2x512x512, .f32⟩
  | .local _ .vmem, ⟨18, _⟩ => ⟨S2x512x512, .f32⟩
  | .local _ .vmem, ⟨19, _⟩ => ⟨S2x512x512, .f32⟩
  | .local _ .vmem, ⟨20, _⟩ => ⟨S2x4x128x128, .f32⟩
  | .local _ .vmem, ⟨21, _⟩ => ⟨S2x4x128x128, .f32⟩
  | .local _ .vmem, ⟨22, _⟩ => ⟨S1x512, .f32⟩
  | .local _ .vmem, ⟨23, _⟩ => ⟨S8x1024, .f32⟩
  | .local _ .vmem, ⟨24, _⟩ => ⟨S128x1024, .bf16⟩
  | .local _ .vmem, ⟨25, _⟩ => ⟨S128x1024, .bf16⟩
  | .local _ .vmem, ⟨26, _⟩ => ⟨S2x4x128x128, .f32⟩
  | .local _ .vmem, ⟨27, _⟩ => ⟨S2x4x128x128, .f32⟩
  | .local _ .vmem, ⟨28, _⟩ => ⟨S4x128x768, .f32⟩
  | .local _ .vmem, ⟨29, _⟩ => ⟨S4x64x64, .f32⟩
  | .local _ .vmem, ⟨30, _⟩ => ⟨S64x512, .f32⟩
  | .local _ .vmem, ⟨31, _⟩ => ⟨S64x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v13 : Ref sig .tc := ⟨.hbm, 47, rfl⟩
abbrev main_c_0 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_call2_v0 : Ref sig .tc := ⟨.hbm, 57, rfl⟩
abbrev main_call2_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev main_v30 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixIdeal.lean ====
variable {F : FTy → Type} [FloatOps F] [Named F]
def κ : String → Option EReal := fun
  | "decay0" => some ((Real.log (31 / 32) : ℝ) : EReal)
  | "decay1" => some ((Real.log (63 / 64) : ℝ) : EReal)
  | "decay2" => some ((Real.log (127 / 128) : ℝ) : EReal)
  | "decay3" => some ((Real.log (255 / 256) : ℝ) : EReal)
  | "decay_chunk0" => some ((279993793990258235750468749959300213014699042596341116563305503247751586492770004816505534904321 / 2135987035920910082395021706169552114602704522356652769947041607822219725780640550022962086936576 : ℝ) : EReal)
  | "decay_chunk1" => some ((14381201289858923833733732277241427911251598557516928831287151963615866190845260542210496569296551598609485715599361 / 39402006196394479212279040100143613805079739270465446667948293404245721771497210611414266254884915640806627990306816 : ℝ) : EReal)
  | "decay_chunk2" => some ((439985273984774139364885786774155225074372621425249766976946157772109425125407741241214744259687760072793219732307971501512893104906241 / 726838724295606890549323807888004534353641360687318060281490199180639288113397923326191050713763565560762521606266177933534601628614656 : ℝ) : EReal)
  | "decay_chunk3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== MixRefIdeal.lean ====
abbrev S2048x512 : Shape := ⟨2, ![2048, 512]⟩
abbrev S1x32x512x8x64 : Shape := ⟨5, ![1, 32, 512, 8, 64]⟩
abbrev S1x32x4x128x128 : Shape := ⟨5, ![1, 32, 4, 128, 128]⟩
abbrev S1x4x128 : Shape := ⟨3, ![1, 4, 128]⟩
abbrev S1x8x513 : Shape := ⟨3, ![1, 8, 513]⟩
abbrev S32x4x128x128 : Shape := ⟨4, ![32, 4, 128, 128]⟩
abbrev S32x64x4x128 : Shape := ⟨4, ![32, 64, 4, 128]⟩
abbrev S_ : Shape := ⟨0, ![]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S32x4x64x64 : Shape := ⟨4, ![32, 4, 64, 64]⟩
abbrev S1x4x64x64 : Shape := ⟨4, ![1, 4, 64, 64]⟩
abbrev S32x4x128x64 : Shape := ⟨4, ![32, 4, 128, 64]⟩
abbrev S1x4 : Shape := ⟨2, ![1, 4]⟩
abbrev S64x4 : Shape := ⟨2, ![64, 4]⟩
abbrev S1x64x4x1 : Shape := ⟨4, ![1, 64, 4, 1]⟩
abbrev S1x4x1x1 : Shape := ⟨4, ![1, 4, 1, 1]⟩
abbrev S4x128 : Shape := ⟨2, ![4, 128]⟩
abbrev S32x64x4 : Shape := ⟨3, ![32, 64, 4]⟩
abbrev S32x64x4x1 : Shape := ⟨4, ![32, 64, 4, 1]⟩
abbrev S1x1x4x128 : Shape := ⟨4, ![1, 1, 4, 128]⟩

abbrev nBuf : Space → Nat
  | .hbm => 115
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .f32⟩
  | .hbm, ⟨5, _⟩ => ⟨S2048x512, .bf16⟩
  | .hbm, ⟨6, _⟩ => ⟨S2048x512, .bf16⟩
  | .hbm, ⟨7, _⟩ => ⟨S1x32x512x8x64, .f32⟩
  | .hbm, ⟨8, _⟩ => ⟨S1x32x512x8x64, .f32⟩
  | .hbm, ⟨9, _⟩ => ⟨S1x32x4x128x128, .f32⟩
  | .hbm, ⟨10, _⟩ => ⟨S1x4x128, .f32⟩
  | .hbm, ⟨11, _⟩ => ⟨S1x8x513, .f32⟩
  | .hbm, ⟨12, _⟩ => ⟨S32x4x128x128, .f32⟩
  | .hbm, ⟨13, _⟩ => ⟨S2048x512, .f32⟩
  | .hbm, ⟨14, _⟩ => ⟨S32x64x4x128, .f32⟩
  | .hbm, ⟨15, _⟩ => ⟨S2048x512, .f32⟩
  | .hbm, ⟨16, _⟩ => ⟨S32x64x4x128, .f32⟩
  | .hbm, ⟨17, _⟩ => ⟨S2048x512, .f32⟩
  | .hbm, ⟨18, _⟩ => ⟨S32x64x4x128, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S64, .f32⟩
  | .hbm, ⟨29, _⟩ => ⟨S64x1, .f32⟩
  | .hbm, ⟨30, _⟩ => ⟨S1x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x64x64, .f32⟩
  | .hbm, ⟨35, _⟩ => ⟨S_, .f32⟩
  | .hbm, ⟨36, _⟩ => ⟨S1x64x64, .f32⟩
  | .hbm, ⟨37, _⟩ => ⟨S1x64x64, .i1⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S1x64x64, .f32⟩
  | .hbm, ⟨42, _⟩ => ⟨S4x1x1, .f32⟩
  | .hbm, ⟨43, _⟩ => ⟨S4x64x64, .f32⟩
  | .hbm, ⟨44, _⟩ => ⟨S4x64x64, .f32⟩
  | .hbm, ⟨45, _⟩ => ⟨S4x64x64, .f32⟩
  | .hbm, ⟨46, _⟩ => ⟨S4x64x64, .f32⟩
  | .hbm, ⟨47, _⟩ => ⟨S_, .f32⟩
  | .hbm, ⟨48, _⟩ => ⟨S_, .f32⟩
  | .hbm, ⟨49, _⟩ => ⟨S4x64x64, .i1⟩
  | .hbm, ⟨50, _⟩ => ⟨S4x64x64, .f32⟩
  | .hbm, ⟨51, _⟩ => ⟨S4x64x64, .f32⟩
  | .hbm, ⟨52, _⟩ => ⟨S32x4x64x64, .f32⟩
  | .hbm, ⟨53, _⟩ => ⟨S1x4x64x64, .f32⟩
  | .hbm, ⟨54, _⟩ => ⟨S32x4x64x64, .f32⟩
  | .hbm, ⟨55, _⟩ => ⟨S32x4x64x64, .f32⟩
  | .hbm, ⟨56, _⟩ => ⟨S32x4x128x64, .f32⟩
  | .hbm, ⟨57, _⟩ => ⟨S32x64x4x128, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64x1, .f32⟩
  | .hbm, ⟨62, _⟩ => ⟨S1x4, .f32⟩
  | .hbm, ⟨63, _⟩ => ⟨S64x4, .f32⟩
  | .hbm, ⟨64, _⟩ => ⟨S64x4, .f32⟩
  | .hbm, ⟨65, _⟩ => ⟨S64x4, .f32⟩
  | .hbm, ⟨66, _⟩ => ⟨S64x4, .f32⟩
  | .hbm, ⟨67, _⟩ => ⟨S32x4x128x64, .f32⟩
  | .hbm, ⟨68, _⟩ => ⟨S32x64x4x128, .f32⟩
  | .hbm, ⟨69, _⟩ => ⟨S1x64x4x1, .f32⟩
  | .hbm, ⟨70, _⟩ => ⟨S32x64x4x128, .f32⟩
  | .hbm, ⟨71, _⟩ => ⟨S32x64x4x128, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S1x4, .f32⟩
  | .hbm, ⟨77, _⟩ => ⟨S64x4, .f32⟩
  | .hbm, ⟨78, _⟩ => ⟨S64x4, .f32⟩
  | .hbm, ⟨79, _⟩ => ⟨S64x4, .f32⟩
  | .hbm, ⟨80, _⟩ => ⟨S64x4, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S1x4x1x1, .f32⟩
  | .hbm, ⟨86, _⟩ => ⟨S32x4x128x128, .f32⟩
  | .hbm, ⟨87, _⟩ => ⟨S32x4x128x128, .f32⟩
  | .hbm, ⟨88, _⟩ => ⟨S1x64x4x1, .f32⟩
  | .hbm, ⟨89, _⟩ => ⟨S32x64x4x128, .f32⟩
  | .hbm, ⟨90, _⟩ => ⟨S32x64x4x128, .f32⟩
  | .hbm, ⟨91, _⟩ => ⟨S32x4x128x128, .f32⟩
  | .hbm, ⟨92, _⟩ => ⟨S32x4x128x128, .f32⟩
  | .hbm, ⟨93, _⟩ => ⟨S32x64x4x128, .f32⟩
  | .hbm, ⟨94, _⟩ => ⟨S2048x512, .f32⟩
  | .hbm, ⟨95, _⟩ => ⟨S4x128, .f32⟩
  | .hbm, ⟨96, _⟩ => ⟨S32x64x4x128, .f32⟩
  | .hbm, ⟨97, _⟩ => ⟨S_, .f32⟩
  | .hbm, ⟨98, _⟩ => ⟨S32x64x4, .f32⟩
  | .hbm, ⟨99, _⟩ => ⟨S32x64x4x1, .f32⟩
  | .hbm, ⟨100, _⟩ => ⟨S_, .f32⟩
  | .hbm, ⟨101, _⟩ => ⟨S32x64x4x1, .f32⟩
  | .hbm, ⟨102, _⟩ => ⟨S32x64x4x1, .f32⟩
  | .hbm, ⟨103, _⟩ => ⟨S_, .f32⟩
  | .hbm, ⟨104, _⟩ => ⟨S32x64x4x1, .f32⟩
  | .hbm, ⟨105, _⟩ => ⟨S32x64x4x1, .f32⟩
  | .hbm, ⟨106, _⟩ => ⟨S32x64x4x1, .f32⟩
  | .hbm, ⟨107, _⟩ => ⟨S32x64x4x128, .f32⟩
  | .hbm, ⟨108, _⟩ => ⟨S32x64x4x128, .f32⟩
  | .hbm, ⟨109, _⟩ => ⟨S1x1x4x128, .f32⟩
  | .hbm, ⟨110, _⟩ => ⟨S32x64x4x128, .f32⟩
  | .hbm, ⟨111, _⟩ => ⟨S32x64x4x128, .f32⟩
  | .hbm, ⟨112, _⟩ => ⟨S2048x512, .f32⟩
  | .hbm, ⟨113, _⟩ => ⟨S2048x512, .f32⟩
  | .hbm, ⟨114, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== TailSample.lean ====
abbrev S2048x1024 : Shape := ⟨2, ![2048, 1024]⟩
abbrev S2048x256 : Shape := ⟨2, ![2048, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1024 : Shape := ⟨1, ![1024]⟩
abbrev S512x1024 : Shape := ⟨2, ![512, 1024]⟩
abbrev S512x256 : Shape := ⟨2, ![512, 256]⟩
abbrev S9 : Shape := ⟨1, ![9]⟩
abbrev S1 : Shape := ⟨1, ![1]⟩
abbrev S_ : Shape := ⟨0, ![]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩
abbrev S256 : Shape := ⟨1, ![256]⟩
abbrev S256x1 : Shape := ⟨2, ![256, 1]⟩
abbrev S256x1536 : Shape := ⟨2, ![256, 1536]⟩
abbrev S512x1536 : Shape := ⟨2, ![512, 1536]⟩
abbrev S512x1280 : Shape := ⟨2, ![512, 1280]⟩
abbrev S256x1280 : Shape := ⟨2, ![256, 1280]⟩

abbrev nBuf : Space → Nat
  | .hbm => 16
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x256, .f32⟩
  | .hbm, ⟨3, _⟩ => ⟨S1024x1024, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S256x1024, .bf16⟩
  | .local _ .vmem, ⟨15, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TailSampleRefIdeal.lean ====
abbrev S2048x1024 : Shape := ⟨2, ![2048, 1024]⟩
abbrev S2048x256 : Shape := ⟨2, ![2048, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x256, .f32⟩
  | .hbm, ⟨3, _⟩ => ⟨S1024x1024, .bf16⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S2048x1024, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1024x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S1024x2816, .f32⟩
  | .hbm, ⟨44, _⟩ => ⟨S2048x2816, .f32⟩
  | .hbm, ⟨45, _⟩ => ⟨S2048x2816, .f32⟩
  | .hbm, ⟨46, _⟩ => ⟨S2816x1024, .f32⟩
  | .hbm, ⟨47, _⟩ => ⟨S2048x1024, .f32⟩
  | .hbm, ⟨48, _⟩ => ⟨S2048x1024, .f32⟩
  | .hbm, ⟨49, _⟩ => ⟨S1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S1024x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048x1024, .f32⟩
  | .hbm, ⟨75, _⟩ => ⟨S2048x1024, .f32⟩
  | .hbm, ⟨76, _⟩ => ⟨S256x1024, .f32⟩
  | .hbm, ⟨77, _⟩ => ⟨S2048x1024, .f32⟩
  | .hbm, ⟨78, _⟩ => ⟨S2048x1024, .f32⟩
  | .hbm, ⟨79, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Proof.TailRow.lean ====
/- One row of the layer's tail as mathematics over the extended reals: the output projection added to the residual,
   the gated feed-forward network behind a root-mean-square norm, and the per-layer embedding gate behind a second
   norm. Neither program is mentioned here; both sides of the value claim are brought to `tailRow`. -/
module

public import Idealize.ShloMosaic.Lib.Pointwise
public import Idealize.ShloMosaic.PureOps.Ideal.Laws

@[expose] public section

noncomputable section

namespace Cert.TailRow

open Idealize.ShloMosaic

/-- A row times a matrix, at column `c`. -/
def dot {n w : ℕ} (v : Fin n → EReal) (M : Fin n → Fin w → EReal) (c : Fin w) : EReal := ∑ k, v k * M k c

/-- The row divided by its root mean square (over 1024 entries, with the norm's epsilon), times the weights `g`. -/
def rms (h g : Fin 1024 → EReal) (c : Fin 1024) : EReal :=
  h c * Ideal.rsqrt (Ideal.div (∑ k, h k * h k) (Ideal.ofBits .f32 0x44800000#32) + Ideal.ofBits .f32 0x358637BD#32) * g c

/-- One hidden unit of the gated network: `silu (u · gate) · (u · up)`. -/
def act {w : ℕ} (u : Fin 1024 → EReal) (Wg Wu : Fin 1024 → Fin w → EReal) (k : Fin w) : EReal :=
  dot u Wg k * Ideal.logistic (dot u Wg k) * dot u Wu k

/-- The residual plus the network's output, the hidden units summed as one. -/
def ffn (h u : Fin 1024 → EReal) (Wg Wu : Fin 1024 → Fin 2816 → EReal) (Wd : Fin 2816 → Fin 1024 → EReal) (c : Fin 1024) : EReal :=
  h c + dot (act u Wg Wu) Wd c

/-- The residual plus the network's output, the hidden units in two groups of 1536 and 1280. -/
def ffn2 (h u : Fin 1024 → EReal) (Wg Wu : Fin 1024 → Fin 1536 → EReal) (Wd : Fin 1536 → Fin 1024 → EReal)
    (Wg' Wu' : Fin 1024 → Fin 1280 → EReal) (Wd' : Fin 1280 → Fin 1024 → EReal) (c : Fin 1024) : EReal :=
  h c + dot (act u Wg Wu) Wd c + dot (act u Wg' Wu') Wd' c

/-- The gate of the per-layer embedding, added to the residual. -/
def ple (h : Fin 1024 → EReal) (p : Fin 256 → EReal) (g : Fin 1024 → EReal) (Wpg : Fin 1024 → Fin 1024 → EReal)
    (Wpp : Fin 256 → Fin 1024 → EReal) (c : Fin 1024) : EReal :=
  h c + dot p Wpp c * Ideal.logistic (dot (rms h g) Wpg c)

/-- The output projection added to the residual. -/
def proj (x y : Fin 1024 → EReal) (Wo : Fin 1024 → Fin 1024 → EReal) (c : Fin 1024) : EReal := x c + dot y Wo c

/-- The tail of the layer on one row: `x` the residual, `y` the mixed heads, `p` the per-layer embedding. -/
def tailRow (x y : Fin 1024 → EReal) (p : Fin 256 → EReal) (Wo : Fin 1024 → Fin 1024 → EReal) (g : Fin 1024 → EReal)
    (Wg Wu : Fin 1024 → Fin 2816 → EReal) (Wd : Fin 2816 → Fin 1024 → EReal) (g' : Fin 1024 → EReal)
    (Wpg : Fin 1024 → Fin 1024 → EReal) (Wpp : Fin 256 → Fin 1024 → EReal) : Fin 1024 → EReal :=
  ple (ffn (proj x y Wo) (rms (proj x y Wo) g) Wg Wu Wd) p g' Wpg Wpp

/-- A sum over the 2816 hidden units is the sum over the first 1536 plus the sum over the last 1280. -/
theorem sum_units (f : Fin 2816 → EReal) :
    ∑ k, f k = (∑ k : Fin 1536, f ⟨k.val, by omega⟩) + ∑ k : Fin 1280, f ⟨1536 + k.val, by omega⟩ :=
  Fin.sum_univ_add (a := 1536) (b := 1280) f

/-- The two groups of hidden units together are all of them. -/
theorem ffn2_eq (h u : Fin 1024 → EReal) (Wg Wu : Fin 1024 → Fin 2816 → EReal) (Wd : Fin 2816 → Fin 1024 → EReal) :
    ffn2 h u (fun i k => Wg i ⟨k.val, by omega⟩) (fun i k => Wu i ⟨k.val, by omega⟩) (fun k j => Wd ⟨k.val, by omega⟩ j)
      (fun i k => Wg i ⟨1536 + k.val, by omega⟩) (fun i k => Wu i ⟨1536 + k.val, by omega⟩)
      (fun k j => Wd ⟨1536 + k.val, by omega⟩ j) = ffn h u Wg Wu Wd := by
  funext c
  simp only [ffn2, ffn, dot, act, sum_units (fun k => _ * Wd k c), add_assoc]

end Cert.TailRow

end
-- ==== Proof.TailPay.lean ====
/- What the tail kernel computes from the vectors it loads, read at one element: each stored half of a block of rows is
   the row function `TailRow` of the loaded rows. The kernel's body is written twice (the first grid point waits for its
   weights, the others find them), so each fact is stated once for either copy. -/
module

public import proofs.«01_k».proof.Proof.TailRow
public import proofs.«01_k».proof.Proof.Gen.TailIdeal.Skeleton

@[expose] public section

set_option maxRecDepth 16384

noncomputable section

namespace Cert.TailPay

open Cert.TailIdeal Cert.TailIdeal.Gen Cert.TailRow Idealize.ShloMosaic Idealize.ShloMosaic.TcCoe Idealize.SL.Sem

/-- A row of a matrix. -/
abbrev row {s0 s1 : ℕ} (X : (⟨2, ![s0, s1]⟩ : Shape).Idx → EReal) (r : Fin s0) : Fin s1 → EReal := fun k => X (ix2 r k)

/-- A matrix by its two coordinates. -/
abbrev mat {s0 s1 : ℕ} (X : (⟨2, ![s0, s1]⟩ : Shape).Idx → EReal) : Fin s0 → Fin s1 → EReal := fun k c => X (ix2 k c)

variable (r : Fin 256) (c : Fin 1024)

/-! ## The residual plus output projection, and its norm -/

section projection
variable (x : FVec Ideal S256x1024 .f32) (y : FVec Ideal S256x1024 .bf16) (w : FVec Ideal S1024x1024 .bf16) (g : FVec Ideal S1x1024 .f32)

/-- Upper half, first copy. -/
theorem pay3_at : k0_pay3 (F := Ideal) x y w (ix2 r c) = proj (row x r) (row y r) (mat w) c := by
  pointwise [k0_pay3, proj, dot]

/-- Lower half, first copy. -/
theorem pay4_at : k0_pay4 (F := Ideal) x y w (ix2 r c) = proj (row x r) (row y r) (mat w) c := by
  pointwise [k0_pay4, proj, dot]

/-- Upper half, second copy. -/
theorem pay23_at : k0_pay23 (F := Ideal) x y w (ix2 r c) = proj (row x r) (row y r) (mat w) c := by
  pointwise [k0_pay23, proj, dot]

/-- Lower half, second copy. -/
theorem pay24_at : k0_pay24 (F := Ideal) x y w (ix2 r c) = proj (row x r) (row y r) (mat w) c := by
  pointwise [k0_pay24, proj, dot]

/-- The norm of the upper half, first copy. -/
theorem pay5_at : k0_pay5 (F := Ideal) x y w g (ix2 r c) = rms (proj (row x r) (row y r) (mat w)) (row g 0) c := by
  pointwise [k0_pay5, pay3_at]; rfl

/-- The norm of the lower half, first copy. -/
theorem pay9_at : k0_pay9 (F := Ideal) (k0_pay4 x y w) (k0_pay6 g) (k0_pay7 x y w) k0_pay8 (ix2 r c)
    = rms (proj (row x r) (row y r) (mat w)) (row g 0) c := by
  pointwise [k0_pay9, k0_pay6, k0_pay7, k0_pay8, pay4_at]; rfl

/-- The norm of the upper half, second copy. -/
theorem pay25_at : k0_pay25 (F := Ideal) x y w g (ix2 r c) = rms (proj (row x r) (row y r) (mat w)) (row g 0) c := by
  pointwise [k0_pay25, pay23_at]; rfl

/-- The norm of the lower half, second copy. -/
theorem pay28_at : k0_pay28 (F := Ideal) (k0_pay24 x y w) (k0_pay26 g) (k0_pay27 x y w) (ix2 r c)
    = rms (proj (row x r) (row y r) (mat w)) (row g 0) c := by
  pointwise [k0_pay28, k0_pay26, k0_pay27, pay24_at]; rfl

end projection

/-! ## The feed-forward network, its hidden units in two groups -/

section network
variable (h1 h2 : FVec Ideal S256x1024 .f32) (u1 : FVec Ideal S256x1024 .bf16) (g : FVec Ideal S1x1024 .f32)
  (a g1 g2 u : FVec Ideal S1024x1536 .bf16) (d : FVec Ideal S1536x1024 .bf16)
  (g' u' : FVec Ideal S1024x1280 .bf16) (d' : FVec Ideal S1280x1024 .bf16)

/-- Upper half, first copy: `u1` the normed upper half, `s`, `q` what the norm of the lower half is made of. -/
theorem pay14_at (s q : FVec Ideal S256x1 .f32) :
    k0_pay14 (F := Ideal) h1 (k0_pay10 h2 u1 g s q) (k0_pay11 h2 u1 g s q g1 g2 u) d g' u' d' (ix2 r c)
      = ffn2 (row h1 r) (row u1 r) (mat g1) (mat u) (mat d) (mat g') (mat u') (mat d') c := by
  pointwise [k0_pay14, k0_pay10, k0_pay11, k0_pay12, k0_pay13]; rfl

/-- Lower half, first copy. -/
theorem pay17_at (s q : FVec Ideal S256x1 .f32) :
    k0_pay17 (F := Ideal) (k0_pay15 h2 (k0_pay11 h2 u1 g s q g1 g2 u) d) (k0_pay16 (k0_pay10 h2 u1 g s q) g' u') d'
        (constant S256x1024 .f32 0x00000000#32) (ix2 r c)
      = ffn2 (row h2 r) (row (k0_pay9 (F := Ideal) h2 g s q) r) (mat g2) (mat u) (mat d) (mat g') (mat u') (mat d') c := by
  pointwise [k0_pay17, k0_pay15, k0_pay16, k0_pay10, k0_pay11, k0_pay12, k0_pay13]; rfl

/-- Upper half, second copy. -/
theorem pay32_at (s : FVec Ideal S256x1024 .f32) :
    k0_pay32 (F := Ideal) h1 h2 u1 g s g1 g2 u d g' u' d' (ix2 r c)
      = ffn2 (row h1 r) (row u1 r) (mat g1) (mat u) (mat d) (mat g') (mat u') (mat d') c := by
  pointwise [k0_pay32, k0_pay29, k0_pay30, k0_pay31]; rfl

/-- Lower half, second copy. -/
theorem pay35_at (s : FVec Ideal S256x1024 .f32) :
    k0_pay35 (F := Ideal) (k0_pay33 h2 u1 g s g1 g2 u d) (k0_pay34 h2 u1 g s g' u') d' (constant S256x1024 .f32 0x00000000#32) (ix2 r c)
      = ffn2 (row h2 r) (row (k0_pay28 (F := Ideal) h2 g s) r) (mat g2) (mat u) (mat d) (mat g') (mat u') (mat d') c := by
  pointwise [k0_pay35, k0_pay33, k0_pay34, k0_pay29, k0_pay30, k0_pay31]; rfl

end network

/-! ## The gate of the per-layer embedding: what is stored -/

section gate
variable (h : FVec Ideal S256x1024 .f32) (p : FVec Ideal S512x256 .f32) (wp : FVec Ideal S256x1024 .bf16)
  (g : FVec Ideal S1x1024 .f32) (wg : FVec Ideal S1024x1024 .bf16)

/-- Upper half, first copy. -/
theorem pay19_at : k0_pay19 (F := Ideal) h p wp g wg (ix2 r c)
    = ple (row h r) (row p ⟨r.val, by omega⟩) (row g 0) (mat wg) (mat wp) c := by
  pointwise [k0_pay19, k0_pay18]; rfl

/-- Upper half, second copy. -/
theorem pay37_at : k0_pay37 (F := Ideal) h p wp g wg (ix2 r c)
    = ple (row h r) (row p ⟨r.val, by omega⟩) (row g 0) (mat wg) (mat wp) c := by
  pointwise [k0_pay37, k0_pay36]; rfl

variable (a z : FVec Ideal S256x1024 .f32) (b : FVec Ideal S256x1280 .bf16) (d : FVec Ideal S1280x1024 .bf16)

/-- Lower half, first copy. -/
theorem pay1_at : k0_pay1 (F := Ideal) (k0_pay17 a b d z) (k0_pay18 p wp) (k0_pay20 g) (k0_pay21 a b d z) k0_pay22 wg (ix2 r c)
    = ple (row (k0_pay17 (F := Ideal) a b d z) r) (row p ⟨256 + r.val, by omega⟩) (row g 0) (mat wg) (mat wp) c := by
  pointwise [k0_pay1, k0_pay18, k0_pay20, k0_pay21, k0_pay22]; rfl

/-- Lower half, second copy. -/
theorem pay2_at : k0_pay2 (F := Ideal) (k0_pay35 a b d z) (k0_pay36 p wp) (k0_pay38 g) (k0_pay39 a b d z) wg (ix2 r c)
    = ple (row (k0_pay35 (F := Ideal) a b d z) r) (row p ⟨256 + r.val, by omega⟩) (row g 0) (mat wg) (mat wp) c := by
  pointwise [k0_pay2, k0_pay36, k0_pay38, k0_pay39]; rfl

end gate

/-! ## The stored halves, whole -/

section halves
variable (x1 x2 : FVec Ideal S256x1024 .f32) (y1 y2 : FVec Ideal S256x1024 .bf16) (w : FVec Ideal S1024x1024 .bf16)
  (g : FVec Ideal S1x1024 .f32) (wg wu : FVec Ideal S1024x1536 .bf16) (wd : FVec Ideal S1536x1024 .bf16)
  (wg' wu' : FVec Ideal S1024x1280 .bf16) (wd' : FVec Ideal S1280x1024 .bf16)
  (p : FVec Ideal S512x256 .f32) (wp : FVec Ideal S256x1024 .bf16) (g' : FVec Ideal S1x1024 .f32) (wpg : FVec Ideal S1024x1024 .bf16)

/-- The row function with the hidden units in two groups, as the kernel holds them. -/
def tailRow2 (x y : Fin 1024 → EReal) (p : Fin 256 → EReal) (g g' : Fin 1024 → EReal) : Fin 1024 → EReal :=
  ple (ffn2 (proj x y (mat w)) (rms (proj x y (mat w)) g) (mat wg) (mat wu) (mat wd) (mat wg') (mat wu') (mat wd')) p g' (mat wpg) (mat wp)

/-- The upper half, first copy. -/
theorem upper_A : k0_pay19 (F := Ideal)
      (k0_pay14 (k0_pay3 x1 y1 w)
        (k0_pay10 (k0_pay4 x2 y2 w) (k0_pay5 x1 y1 w g) (k0_pay6 g) (k0_pay7 x2 y2 w) k0_pay8)
        (k0_pay11 (k0_pay4 x2 y2 w) (k0_pay5 x1 y1 w g) (k0_pay6 g) (k0_pay7 x2 y2 w) k0_pay8 wg wg wu) wd wg' wu' wd')
      p wp g' wpg (ix2 r c)
    = tailRow2 w wg wu wd wg' wu' wd' wp wpg (row x1 r) (row y1 r) (row p ⟨r.val, by omega⟩) (row g 0) (row g' 0) c := by
  rw [pay19_at]
  exact congrArg (fun h => ple h _ _ _ _ c) (funext fun k => (pay14_at ..).trans
    (congrArg₂ (fun h u => ffn2 h u _ _ _ _ _ _ k) (funext fun j => pay3_at ..) (funext fun j => pay5_at ..)))

/-- The upper half, second copy. -/
theorem upper_B : k0_pay37 (F := Ideal)
      (k0_pay32 (k0_pay23 x1 y1 w) (k0_pay24 x2 y2 w) (k0_pay25 x1 y1 w g) (k0_pay26 g) (k0_pay27 x2 y2 w) wg wg wu wd wg' wu' wd')
      p wp g' wpg (ix2 r c)
    = tailRow2 w wg wu wd wg' wu' wd' wp wpg (row x1 r) (row y1 r) (row p ⟨r.val, by omega⟩) (row g 0) (row g' 0) c := by
  rw [pay37_at]
  exact congrArg (fun h => ple h _ _ _ _ c) (funext fun k => (pay32_at ..).trans
    (congrArg₂ (fun h u => ffn2 h u _ _ _ _ _ _ k) (funext fun j => pay23_at ..) (funext fun j => pay25_at ..)))

/-- The lower half, first copy: `q`, `s` and `z` are the values the stores share. -/
theorem lower_A (q : FVec Ideal S512x1536 .bf16) (s : FVec Ideal S512x1024 .bf16) (z : FVec Ideal S256x1024 .f32)
    (hq : q = k0_pay11 (k0_pay4 x2 y2 w) (k0_pay5 x1 y1 w g) (k0_pay6 g) (k0_pay7 x2 y2 w) k0_pay8 wg wg wu)
    (hs : s = k0_pay10 (k0_pay4 x2 y2 w) (k0_pay5 x1 y1 w g) (k0_pay6 g) (k0_pay7 x2 y2 w) k0_pay8)
    (hz : z = constant S256x1024 .f32 0x00000000#32) :
    k0_pay1 (F := Ideal) (k0_pay17 (k0_pay15 (k0_pay4 x2 y2 w) q wd) (k0_pay16 s wg' wu') wd' z) (k0_pay18 p wp) (k0_pay20 g')
      (k0_pay21 (k0_pay15 (k0_pay4 x2 y2 w) q wd) (k0_pay16 s wg' wu') wd' z) k0_pay22 wpg (ix2 r c)
    = tailRow2 w wg wu wd wg' wu' wd' wp wpg (row x2 r) (row y2 r) (row p ⟨256 + r.val, by omega⟩) (row g 0) (row g' 0) c := by
  rw [pay1_at, hq, hs, hz]
  exact congrArg (fun h => ple h _ _ _ _ c) (funext fun k => (pay17_at ..).trans
    (congrArg₂ (fun h u => ffn2 h u _ _ _ _ _ _ k) (funext fun j => pay4_at ..) (funext fun j => pay9_at ..)))

/-- The lower half, second copy. -/
theorem lower_B (b : FVec Ideal S256x1280 .bf16) (a z : FVec Ideal S256x1024 .f32)
    (ha : a = k0_pay33 (k0_pay24 x2 y2 w) (k0_pay25 x1 y1 w g) (k0_pay26 g) (k0_pay27 x2 y2 w) wg wg wu wd)
    (hb : b = k0_pay34 (k0_pay24 x2 y2 w) (k0_pay25 x1 y1 w g) (k0_pay26 g) (k0_pay27 x2 y2 w) wg' wu')
    (hz : z = constant S256x1024 .f32 0x00000000#32) :
    k0_pay2 (F := Ideal) (k0_pay35 a b wd' z) (k0_pay36 p wp) (k0_pay38 g') (k0_pay39 a b wd' z) wpg (ix2 r c)
    = tailRow2 w wg wu wd wg' wu' wd' wp wpg (row x2 r) (row y2 r) (row p ⟨256 + r.val, by omega⟩) (row g 0) (row g' 0) c := by
  rw [pay2_at, ha, hb, hz]
  exact congrArg (fun h => ple h _ _ _ _ c) (funext fun k => (pay35_at ..).trans
    (congrArg₂ (fun h u => ffn2 h u _ _ _ _ _ _ k) (funext fun j => pay24_at ..) (funext fun j => pay28_at ..)))

end halves

end Cert.TailPay

end
-- ==== Proof.Loads.lean ====
/- An element of a rectangle the kernel loads: of a buffer's contents, or of what the body stored into it before. -/
module

public import Idealize.ShloMosaic.Lib.Pointwise
public import Idealize.ShloMosaic.PureOps.Ideal.Laws
public import Idealize.ShloMosaic.Lib.Pipeline.ValueKit
public import Idealize.ShloMosaic.Lib.Pipeline.ReadBack

@[expose] public section

noncomputable section

namespace Cert.Loads

open Idealize.ShloMosaic Idealize.ShloMosaic.TcCoe Idealize.SL.Sem

/-- An element of a loaded rectangle is the contents' element at the rectangle's offsets. -/
theorem ld_at {s0 s1 o p n q : ℕ} {φ : EltTy} {inb : ∀ a, (![o, p] : Fin 2 → ℕ) a + (![n, q] : Fin 2 → ℕ) a ≤ (⟨2, ![s0, s1]⟩ : Shape).size a}
    (X : Vec Ideal ⟨2, ![s0, s1]⟩ φ) {i : Fin n} {j : Fin q} {i' : Fin s0} {j' : Fin s1} (hi : i'.val = o + i.val) (hj : j'.val = p + j.val) :
    View.ld (Val := Elt Ideal) (e' := φ) X (Rect.unit (s := ⟨2, ![s0, s1]⟩) ![o, p] ![n, q] inb) (ix2 i j) = X (ix2 i' j') :=
  View.ld_unit_apply_of _ _ _ _ _ _ fun a => by
    fin_cases a
    · exact hi
    · exact hj

/-- The same of a cube. -/
theorem ld_at3 {s0 s1 s2 o p q n k l : ℕ} {φ : EltTy} {inb : ∀ a, (![o, p, q] : Fin 3 → ℕ) a + (![n, k, l] : Fin 3 → ℕ) a ≤ (⟨3, ![s0, s1, s2]⟩ : Shape).size a}
    (X : Vec Ideal ⟨3, ![s0, s1, s2]⟩ φ) {i : Fin n} {j : Fin k} {r : Fin l} {i' : Fin s0} {j' : Fin s1} {r' : Fin s2}
    (hi : i'.val = o + i.val) (hj : j'.val = p + j.val) (hr : r'.val = q + r.val) :
    View.ld (Val := Elt Ideal) (e' := φ) X (Rect.unit (s := ⟨3, ![s0, s1, s2]⟩) ![o, p, q] ![n, k, l] inb) (ix3 i j r) = X (ix3 i' j' r') :=
  View.ld_unit_apply_of _ _ _ _ _ _ fun a => by
    fin_cases a
    · exact hi
    · exact hj
    · exact hr

/-- The same in four dimensions. -/
theorem ld_at4 {s0 s1 s2 s3 o p q w n k l z : ℕ} {φ : EltTy}
    {inb : ∀ a, (![o, p, q, w] : Fin 4 → ℕ) a + (![n, k, l, z] : Fin 4 → ℕ) a ≤ (⟨4, ![s0, s1, s2, s3]⟩ : Shape).size a}
    (X : Vec Ideal ⟨4, ![s0, s1, s2, s3]⟩ φ) {i : Fin n} {j : Fin k} {r : Fin l} {u : Fin z} {i' : Fin s0} {j' : Fin s1} {r' : Fin s2} {u' : Fin s3}
    (hi : i'.val = o + i.val) (hj : j'.val = p + j.val) (hr : r'.val = q + r.val) (hu : u'.val = w + u.val) :
    View.ld (Val := Elt Ideal) (e' := φ) X (Rect.unit (s := ⟨4, ![s0, s1, s2, s3]⟩) ![o, p, q, w] ![n, k, l, z] inb) (ix4 i j r u) = X (ix4 i' j' r' u') :=
  View.ld_unit_apply_of _ _ _ _ _ _ fun a => by
    fin_cases a
    · exact hi
    · exact hj
    · exact hr
    · exact hu

/-- The whole rectangle has every index. -/
theorem mem_whole {S : Shape} (y : S.Idx) : y ∈ (Rect.whole S).set := by
  rw [Rect.set_whole]; exact Finset.mem_univ y

/-- A load of a buffer whose writes are all blocks of `W`, and cover it, loads `W`. -/
theorem readCov_of_pieces {sig : RefSig} {κ : Kind} {sp : Space} {s : Shape} {e : EltTy} (v : View sig κ sp s e) (W : s.Idx → Elt Ideal e)
    {L : List (View.Piece (Elt Ideal) s e)} {r : Rect s} (hc : ∀ y, ∃ p ∈ L, y ∈ p.1.set) (h : View.PiecesOf W L) :
    v.readCov L r.toLoadRect = View.ld W r :=
  (View.readCov_eq_canon_ld v L r hc).trans (congrArg (fun X => View.ld X r) (funext fun y => View.canon_apply_of_pieces W L h.mem y (hc y)))

/-- An element of a load of such a buffer. -/
theorem readCov_at {sig : RefSig} {κ : Kind} {sp : Space} {s0 s1 o p n q : ℕ} {φ : EltTy} {v : View sig κ sp ⟨2, ![s0, s1]⟩ φ}
    {inb : ∀ a, (![o, p] : Fin 2 → ℕ) a + (![n, q] : Fin 2 → ℕ) a ≤ (⟨2, ![s0, s1]⟩ : Shape).size a}
    (W : Vec Ideal ⟨2, ![s0, s1]⟩ φ) {L : List (View.Piece (Elt Ideal) ⟨2, ![s0, s1]⟩ φ)}
    {i : Fin n} {j : Fin q} {i' : Fin s0} {j' : Fin s1} (hi : i'.val = o + i.val) (hj : j'.val = p + j.val)
    (hc : ∀ y, ∃ p ∈ L, y ∈ p.1.set) (h : View.PiecesOf W L) :
    v.readCov L (Rect.unit (s := ⟨2, ![s0, s1]⟩) ![o, p] ![n, q] inb).toLoadRect (ix2 i j) = W (ix2 i' j') := by
  rw [readCov_of_pieces v W hc h]; exact ld_at W hi hj

/-- An element of a load of a buffer written whole. -/
theorem readCov_whole_at {sig : RefSig} {κ : Kind} {sp : Space} {s0 s1 o p n q : ℕ} {φ : EltTy} {v : View sig κ sp ⟨2, ![s0, s1]⟩ φ}
    {inb : ∀ a, (![o, p] : Fin 2 → ℕ) a + (![n, q] : Fin 2 → ℕ) a ≤ (⟨2, ![s0, s1]⟩ : Shape).size a}
    (W : Vec Ideal ⟨2, ![s0, s1]⟩ φ) {i : Fin n} {j : Fin q} {i' : Fin s0} {j' : Fin s1} (hi : i'.val = o + i.val) (hj : j'.val = p + j.val) :
    v.readCov [(⟨Rect.whole _, W⟩ : View.Piece (Elt Ideal) ⟨2, ![s0, s1]⟩ φ)]
      (Rect.unit (s := ⟨2, ![s0, s1]⟩) ![o, p] ![n, q] inb).toLoadRect (ix2 i j) = W (ix2 i' j') :=
  readCov_at W hi hj (fun y => ⟨_, List.mem_singleton_self _, mem_whole y⟩) ⟨fun x => congrArg W (Rect.emb_whole_apply _ x).symm, trivial⟩

/-- The writes `L` fill a buffer with `W`: each is a block of `W`, and together they cover it. -/
structure Fills {s : Shape} {e : EltTy} (W : s.Idx → Elt Ideal e) (L : List (View.Piece (Elt Ideal) s e)) : Prop where
  covers : ∀ y, ∃ p ∈ L, y ∈ p.1.set
  pieces : View.PiecesOf W L

/-- One write of the whole buffer fills it. -/
theorem fills_whole {s : Shape} {e : EltTy} (W : s.Idx → Elt Ideal e) : Fills W [(⟨Rect.whole _, W⟩ : View.Piece (Elt Ideal) s e)] :=
  ⟨fun y => ⟨_, List.mem_singleton_self _, mem_whole y⟩, fun x => congrArg W (Rect.emb_whole_apply _ x).symm, trivial⟩

/-- After writes that fill it with `W`, a buffer holds `W`. -/
theorem Fills.canon {s : Shape} {e : EltTy} {W : s.Idx → Elt Ideal e} {L : List (View.Piece (Elt Ideal) s e)} (h : Fills W L) : View.canon L = W :=
  funext fun y => View.canon_apply_of_pieces W L h.pieces.mem y (h.covers y)

/-- A load of such a buffer loads `W`. -/
theorem Fills.readCov {sig : RefSig} {κ : Kind} {sp : Space} {s : Shape} {e : EltTy} {W : s.Idx → Elt Ideal e}
    {L : List (View.Piece (Elt Ideal) s e)} (h : Fills W L) (v : View sig κ sp s e) (r : Rect s) : v.readCov L r.toLoadRect = View.ld W r :=
  readCov_of_pieces v W h.covers h.pieces

end Cert.Loads

end
-- ==== Proof.TailParts.lean ====
/- The weights as a body of the tail kernel loads them: parts of the whole weights, whether its own copies have just landed
   or an earlier grid point left them. And the block a grid point leaves, from the whole weights. -/
module

public import proofs.«01_k».proof.Proof.TailPay
public import proofs.«01_k».proof.Proof.Loads
public import Idealize.ShloMosaic.Lib.Pipeline.ValueKit
public import Idealize.ShloMosaic.Lib.Pipeline.ReadBack

@[expose] public section

set_option maxRecDepth 16384

noncomputable section

namespace Cert.TailParts

open Cert.TailIdeal Cert.TailIdeal.Gen Cert.TailRow Cert.TailPay Cert.Loads Idealize.ShloMosaic Idealize.ShloMosaic.TcCoe Idealize.SL.Sem

/-- What a grid point leaves in its output block: each row of the block through the row function, the weights `s0 … s5`. -/
def Left (X : FVec Ideal S512x1024 .f32) (Y : FVec Ideal S512x1024 .bf16) (P : FVec Ideal S512x256 .f32) (G : FVec Ideal S1x1024 .f32)
    (G' : FVec Ideal S1x1024 .f32) (s0 : FVec Ideal S1024x1024 .bf16) (s1 s2 : FVec Ideal S1024x2816 .bf16)
    (s3 : FVec Ideal S2816x1024 .bf16) (s4 : FVec Ideal S256x1024 .bf16) (s5 : FVec Ideal S1024x1024 .bf16)
    (r : Fin 512) (k : Fin 1024) : EReal :=
  tailRow (row X r) (row Y r) (row P r) (mat s0) (row G 0) (mat s1) (mat s2) (mat s3) (row G' 0) (mat s5) (mat s4) k

/-- The weights as a body loads them, the feed-forward ones in two groups of hidden units, are parts of `s0 … s5`. -/
structure Parts (w : FVec Ideal S1024x1024 .bf16) (wg wu : FVec Ideal S1024x1536 .bf16) (wd : FVec Ideal S1536x1024 .bf16)
    (wg' wu' : FVec Ideal S1024x1280 .bf16) (wd' : FVec Ideal S1280x1024 .bf16) (wp : FVec Ideal S256x1024 .bf16) (wpg : FVec Ideal S1024x1024 .bf16)
    (s0 : FVec Ideal S1024x1024 .bf16) (s1 s2 : FVec Ideal S1024x2816 .bf16) (s3 : FVec Ideal S2816x1024 .bf16)
    (s4 : FVec Ideal S256x1024 .bf16) (s5 : FVec Ideal S1024x1024 .bf16) : Prop where
  out : ∀ i j, mat w i j = mat s0 i j
  gate : ∀ i (j : Fin 1536), mat wg i j = mat s1 i ⟨j.val, by omega⟩
  up : ∀ i (j : Fin 1536), mat wu i j = mat s2 i ⟨j.val, by omega⟩
  down : ∀ (i : Fin 1536) j, mat wd i j = mat s3 ⟨i.val, by omega⟩ j
  gate' : ∀ i (j : Fin 1280), mat wg' i j = mat s1 i ⟨1536 + j.val, by omega⟩
  up' : ∀ i (j : Fin 1280), mat wu' i j = mat s2 i ⟨1536 + j.val, by omega⟩
  down' : ∀ (i : Fin 1280) j, mat wd' i j = mat s3 ⟨1536 + i.val, by omega⟩ j
  proj : ∀ i j, mat wp i j = mat s4 i j
  mix : ∀ i j, mat wpg i j = mat s5 i j

variable {w : FVec Ideal S1024x1024 .bf16} {wg wu : FVec Ideal S1024x1536 .bf16} {wd : FVec Ideal S1536x1024 .bf16}
  {wg' wu' : FVec Ideal S1024x1280 .bf16} {wd' : FVec Ideal S1280x1024 .bf16} {wp : FVec Ideal S256x1024 .bf16} {wpg : FVec Ideal S1024x1024 .bf16}
  {s0 : FVec Ideal S1024x1024 .bf16} {s1 s2 : FVec Ideal S1024x2816 .bf16} {s3 : FVec Ideal S2816x1024 .bf16}
  {s4 : FVec Ideal S256x1024 .bf16} {s5 : FVec Ideal S1024x1024 .bf16}

/-- A row computed from loaded parts of the weights is the row function of the whole weights. -/
theorem left_of_parts {x y : Fin 1024 → EReal} {X : FVec Ideal S512x1024 .f32} {Y : FVec Ideal S512x1024 .bf16} {P : FVec Ideal S512x256 .f32}
    {G G' : FVec Ideal S1x1024 .f32} {r : Fin 512} (k : Fin 1024) (h : Parts w wg wu wd wg' wu' wd' wp wpg s0 s1 s2 s3 s4 s5)
    (hx : ∀ j, x j = X (ix2 r j)) (hy : ∀ j, y j = Y (ix2 r j)) :
    tailRow2 w wg wu wd wg' wu' wd' wp wpg x y (row P r) (row G 0) (row G' 0) k = Left X Y P G G' s0 s1 s2 s3 s4 s5 r k := by
  obtain rfl : x = row X r := funext hx
  obtain rfl : y = row Y r := funext hy
  rw [tailRow2, Left, tailRow, ← ffn2_eq, show mat w = _ from funext₂ h.out, show mat wp = _ from funext₂ h.proj, show mat wpg = _ from funext₂ h.mix,
    show mat wg = _ from funext₂ h.gate, show mat wu = _ from funext₂ h.up, show mat wd = _ from funext₂ h.down,
    show mat wg' = _ from funext₂ h.gate', show mat wu' = _ from funext₂ h.up', show mat wd' = _ from funext₂ h.down']

/-- Loads of buffers that hold the weights load their parts. -/
theorem parts_held {b1 b2 b3 b4 b5 b6} :
    Parts s0 (View.ld (Val := Elt Ideal) (e' := .bf16) s1 (Rect.unit (s := S1024x2816) ![0, 0] ![1024, 1536] b1))
      (View.ld (Val := Elt Ideal) (e' := .bf16) s2 (Rect.unit (s := S1024x2816) ![0, 0] ![1024, 1536] b2))
      (View.ld (Val := Elt Ideal) (e' := .bf16) s3 (Rect.unit (s := S2816x1024) ![0, 0] ![1536, 1024] b3))
      (View.ld (Val := Elt Ideal) (e' := .bf16) s1 (Rect.unit (s := S1024x2816) ![0, 1536] ![1024, 1280] b4))
      (View.ld (Val := Elt Ideal) (e' := .bf16) s2 (Rect.unit (s := S1024x2816) ![0, 1536] ![1024, 1280] b5))
      (View.ld (Val := Elt Ideal) (e' := .bf16) s3 (Rect.unit (s := S2816x1024) ![1536, 0] ![1280, 1024] b6))
      s4 s5 s0 s1 s2 s3 s4 s5 where
  out _ _ := rfl
  gate _ _ := ld_at _ (Nat.zero_add _).symm (Nat.zero_add _).symm
  up _ _ := ld_at _ (Nat.zero_add _).symm (Nat.zero_add _).symm
  down _ _ := ld_at _ (Nat.zero_add _).symm (Nat.zero_add _).symm
  gate' _ _ := ld_at _ (Nat.zero_add _).symm rfl
  up' _ _ := ld_at _ (Nat.zero_add _).symm rfl
  down' _ _ := ld_at _ rfl (Nat.zero_add _).symm
  proj _ _ := rfl
  mix _ _ := rfl

/-- Loads of buffers that copies have filled with the weights load their parts. -/
theorem parts_landed {sig : RefSig} {κ : Kind} {sp : Space} {v0 v5 : View sig κ sp S1024x1024 .bf16} {v1 v2 : View sig κ sp S1024x2816 .bf16}
    {v3 : View sig κ sp S2816x1024 .bf16} {v4 : View sig κ sp S256x1024 .bf16}
    {L0 L5 : List (View.Piece (Elt Ideal) S1024x1024 .bf16)} {L1 L2 : List (View.Piece (Elt Ideal) S1024x2816 .bf16)}
    {L3 : List (View.Piece (Elt Ideal) S2816x1024 .bf16)} {L4 : List (View.Piece (Elt Ideal) S256x1024 .bf16)} {b0 b1 b2 b3 b4 b5 b6 b7 b8}
    (f0 : Fills (e := .bf16) s0 L0) (f1 : Fills (e := .bf16) s1 L1) (f2 : Fills (e := .bf16) s2 L2)
    (f3 : Fills (e := .bf16) s3 L3) (f4 : Fills (e := .bf16) s4 L4) (f5 : Fills (e := .bf16) s5 L5) :
    Parts (v0.readCov L0 (Rect.unit (s := S1024x1024) ![0, 0] ![1024, 1024] b0).toLoadRect)
      (v1.readCov L1 (Rect.unit (s := S1024x2816) ![0, 0] ![1024, 1536] b1).toLoadRect)
      (v2.readCov L2 (Rect.unit (s := S1024x2816) ![0, 0] ![1024, 1536] b2).toLoadRect)
      (v3.readCov L3 (Rect.unit (s := S2816x1024) ![0, 0] ![1536, 1024] b3).toLoadRect)
      (v1.readCov L1 (Rect.unit (s := S1024x2816) ![0, 1536] ![1024, 1280] b4).toLoadRect)
      (v2.readCov L2 (Rect.unit (s := S1024x2816) ![0, 1536] ![1024, 1280] b5).toLoadRect)
      (v3.readCov L3 (Rect.unit (s := S2816x1024) ![1536, 0] ![1280, 1024] b6).toLoadRect)
      (v4.readCov L4 (Rect.unit (s := S256x1024) ![0, 0] ![256, 1024] b7).toLoadRect)
      (v5.readCov L5 (Rect.unit (s := S1024x1024) ![0, 0] ![1024, 1024] b8).toLoadRect)
      s0 s1 s2 s3 s4 s5 := by
  rw [f0.readCov, f1.readCov, f1.readCov, f2.readCov, f2.readCov, f3.readCov, f3.readCov, f4.readCov, f5.readCov]
  have h := parts_held (b1 := b1) (b2 := b2) (b3 := b3) (b4 := b4) (b5 := b5) (b6 := b6) (s0 := s0) (s1 := s1) (s2 := s2) (s3 := s3) (s4 := s4) (s5 := s5)
  exact ⟨fun _ _ => ld_at (φ := .bf16) s0 (Nat.zero_add _).symm (Nat.zero_add _).symm, h.gate, h.up, h.down, h.gate', h.up', h.down',
    fun _ _ => ld_at (φ := .bf16) s4 (Nat.zero_add _).symm (Nat.zero_add _).symm, fun _ _ => ld_at (φ := .bf16) s5 (Nat.zero_add _).symm (Nat.zero_add _).symm⟩

end Cert.TailParts

end
-- ==== Proof.TailKernel.lean ====
/- What a grid point of the tail kernel leaves, and the array after the run. -/
module

public import proofs.«01_k».proof.Proof.TailParts
public import proofs.«01_k».proof.Proof.Gen.TailIdeal.Frame

@[expose] public section

set_option maxRecDepth 16384

noncomputable section

namespace Cert.TailKernel

open Cert.TailIdeal Cert.TailIdeal.Gen Cert.TailRow Cert.TailPay Cert.TailParts Cert.Loads Idealize.ShloMosaic Idealize.ShloMosaic.TcCoe Idealize.SL.Sem
open Idealize.ShloMosaic.Pipeline (Dat)

variable (m : (ℓ : Loc nD τ sig) → Buf (Elt Ideal) ℓ)

/-- Every later point: the row function of its own rows, at the weights the point before left. -/
theorem after_B (c : Dev nD) (t : Fin cfg0.N) (h0 : ¬t.val % 32 = 0) (h1 : 1 ≤ t.val) (r : Fin 512) (k : Fin 1024) :
    (outsAt0 m c t.val t.isLt).1 (ix2 r k) = Left (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 r k := by
  rw [outsAt0_B m c t h0 h1]
  generalize outsAt0 m c (t.val - 1) (Nat.lt_of_le_of_lt (Nat.sub_le _ _) t.isLt) = S
  obtain ⟨-, s0, s1, s2, s3, s4, s5⟩ := S
  frame_out
  simp only [read_unread_whole]
  canon_tiles x h
  · idx_vars x
    obtain rfl : r = ⟨256 + x0.val, Nat.add_lt_add_left x0.isLt 256⟩ := Fin.ext h0
    obtain rfl : k = x1 := Fin.ext h1
    refine (lower_B (w := s0) (g := iblk m c 3 t) (ha := rfl) (hb := rfl) (hz := rfl) ..).trans ?_
    exact left_of_parts k parts_held (fun _ => ld_at _ rfl (Nat.zero_add _).symm) (fun _ => ld_at _ rfl (Nat.zero_add _).symm)
  · idx_vars x
    obtain rfl : r = ⟨x0.val, Nat.lt_of_lt_of_le x0.isLt (by decide)⟩ := Fin.ext h0
    obtain rfl : k = x1 := Fin.ext h1
    refine (upper_B ..).trans ?_
    exact left_of_parts k parts_held (fun _ => ld_at _ (Nat.zero_add _).symm (Nat.zero_add _).symm) (fun _ => ld_at _ (Nat.zero_add _).symm (Nat.zero_add _).symm)

/-- The first point's landed copies are the weights. -/
theorem scratch_A (c : Dev nD) (t : Fin cfg0.N) (h0 : t.val % 32 = 0) (h1 : ¬1 ≤ t.val) :
    (outsAt0 m c t.val t.isLt).2 = (V m c main_arg3, V m c main_arg5, V m c main_arg6, V m c main_arg7, V m c main_arg10, V m c main_arg9) := by
  rw [outsAt0_A m c t h0 h1]
  refine Prod.ext ?_ (Prod.ext ?_ (Prod.ext ?_ (Prod.ext ?_ (Prod.ext ?_ ?_)))) <;> frame_out
  · exact (fills_whole _).canon
  · exact Fills.canon ⟨View.cover_of_tiledBy _ ![1024, 256] (by sl_kernel_rfl), fun _ => rfl, fun _ => rfl, trivial⟩
  · exact Fills.canon ⟨View.cover_of_tiledBy _ ![1024, 256] (by sl_kernel_rfl), fun _ => rfl, fun _ => rfl, trivial⟩
  · exact Fills.canon ⟨View.cover_of_tiledBy _ ![256, 1024] (by sl_kernel_rfl), fun _ => rfl, fun _ => rfl, trivial⟩
  · exact (fills_whole _).canon
  · exact (fills_whole _).canon

/-- The first point: the row function of its own rows, at the weights. -/
theorem after_A (c : Dev nD) (t : Fin cfg0.N) (h0 : t.val % 32 = 0) (h1 : ¬1 ≤ t.val) (r : Fin 512) (k : Fin 1024) :
    (outsAt0 m c t.val t.isLt).1 (ix2 r k) = Left (iblk m c 0 t) (iblk m c 1 t) (iblk m c 2 t) (iblk m c 3 t) (iblk m c 4 t)
      (V m c main_arg3) (V m c main_arg5) (V m c main_arg6) (V m c main_arg7) (V m c main_arg10) (V m c main_arg9) r k := by
  rw [outsAt0_A m c t h0 h1]
  frame_out
  canon_tiles x h
  · idx_vars x
    obtain rfl : r = ⟨256 + x0.val, Nat.add_lt_add_left x0.isLt 256⟩ := Fin.ext h0
    obtain rfl : k = x1 := Fin.ext h1
    refine (lower_A (g := iblk m c 3 t) (hq := rfl) (hs := rfl) (hz := rfl) ..).trans ?_
    exact left_of_parts k (parts_landed (fills_whole _)
      ⟨View.cover_of_tiledBy _ ![1024, 256] (by sl_kernel_rfl), fun _ => rfl, fun _ => rfl, trivial⟩
      ⟨View.cover_of_tiledBy _ ![1024, 256] (by sl_kernel_rfl), fun _ => rfl, fun _ => rfl, trivial⟩
      ⟨View.cover_of_tiledBy _ ![256, 1024] (by sl_kernel_rfl), fun _ => rfl, fun _ => rfl, trivial⟩
      (fills_whole _) (fills_whole _))
      (fun _ => ld_at _ rfl (Nat.zero_add _).symm) (fun _ => ld_at _ rfl (Nat.zero_add _).symm)
  · idx_vars x
    obtain rfl : r = ⟨x0.val, Nat.lt_of_lt_of_le x0.isLt (by decide)⟩ := Fin.ext h0
    obtain rfl : k = x1 := Fin.ext h1
    refine (upper_A ..).trans ?_
    exact left_of_parts k (parts_landed (fills_whole _)
      ⟨View.cover_of_tiledBy _ ![1024, 256] (by sl_kernel_rfl), fun _ => rfl, fun _ => rfl, trivial⟩
      ⟨View.cover_of_tiledBy _ ![1024, 256] (by sl_kernel_rfl), fun _ => rfl, fun _ => rfl, trivial⟩
      ⟨View.cover_of_tiledBy _ ![256, 1024] (by sl_kernel_rfl), fun _ => rfl, fun _ => rfl, trivial⟩
      (fills_whole _) (fills_whole _))
      (fun _ => ld_at _ (Nat.zero_add _).symm (Nat.zero_add _).symm) (fun _ => ld_at _ (Nat.zero_add _).symm (Nat.zero_add _).symm)

/-- At every point the scratch buffers hold the weights. -/
theorem weights (c : Dev nD) : ∀ (n : ℕ) (hn : n < cfg0.N), (outsAt0 m c n hn).2
    = (V m c main_arg3, V m c main_arg5, V m c main_arg6, V m c main_arg7, V m c main_arg10, V m c main_arg9)
  | 0, hn => scratch_A m c ⟨0, hn⟩ rfl (Nat.not_succ_le_zero 0)
  | n + 1, hn => by
    have hN : n + 1 < 32 := lt_of_lt_of_eq hn (show cfg0.N = 32 from N_0)
    rw [outsAt0_B m c ⟨n + 1, hn⟩ (by show ¬(n + 1) % 32 = 0; omega) (by show 1 ≤ n + 1; omega)]
    exact weights c n (Nat.lt_of_succ_lt hn)

/-- Every point leaves the row function of its own rows, at the weights. -/
theorem after (c : Dev nD) (t : Fin cfg0.N) (r : Fin 512) (k : Fin 1024) :
    (outsAt0 m c t.val t.isLt).1 (ix2 r k) = Left (iblk m c 0 t) (iblk m c 1 t) (iblk m c 2 t) (iblk m c 3 t) (iblk m c 4 t)
      (V m c main_arg3) (V m c main_arg5) (V m c main_arg6) (V m c main_arg7) (V m c main_arg10) (V m c main_arg9) r k := by
  have hN : t.val < 32 := lt_of_lt_of_eq t.isLt (show cfg0.N = 32 from N_0)
  by_cases h : t.val = 0
  · exact after_A m c t (by omega) (by omega) r k
  · rw [after_B m c t (by omega) (by omega) r k, weights]

end Cert.TailKernel

end
-- ==== Proof.TailReference.lean ====
/- The reference of the tail, read at one element: row `r` of its result is the row function `TailRow.tailRow` of the
   arguments' rows `r` and the weights. -/
module

public import proofs.«01_k».proof.Proof.TailRow
public import proofs.«01_k».proof.Proof.Gen.TailRefIdeal.Read

@[expose] public section

set_option maxRecDepth 16384

noncomputable section

namespace Cert.TailReference

open Cert.TailRefIdeal Cert.TailRefIdeal.Gen Cert.TailRefIdeal.Read Cert.TailRow
open Idealize.ShloMosaic Idealize.ShloMosaic.TcCoe Idealize.SL.Sem

/-- A row of a matrix. -/
abbrev row {s0 s1 : ℕ} (X : (⟨2, ![s0, s1]⟩ : Shape).Idx → EReal) (r : Fin s0) : Fin s1 → EReal := fun k => X (ix2 r k)

/-- A matrix by its two coordinates. -/
abbrev mat {s0 s1 : ℕ} (X : (⟨2, ![s0, s1]⟩ : Shape).Idx → EReal) : Fin s0 → Fin s1 → EReal := fun k c => X (ix2 k c)

variable (x : FVec Ideal S16384x1024 .f32) (y : FVec Ideal S16384x1024 .bf16) (p : FVec Ideal S16384x256 .f32)
  (wo : FVec Ideal S1024x1024 .bf16) (g : FVec Ideal S1x1024 .f32) (wg wu : FVec Ideal S1024x2816 .bf16)
  (wd : FVec Ideal S2816x1024 .bf16) (g' : FVec Ideal S1x1024 .f32) (wpg : FVec Ideal S1024x1024 .bf16)
  (wpp : FVec Ideal S256x1024 .bf16) (r : Fin 16384) (c : Fin 1024)

/-- The residual plus the output projection. -/
theorem v3_at : val_main_v3 (F := Ideal) x y wo (ix2 r c) = proj (row x r) (row y r) (mat wo) c := by
  pointwise [val_main_v3, val_main_v2, val_main_v1, val_main_v0, proj, dot]

/-- Its norm. -/
theorem v17_at : val_main_v17 (F := Ideal) x y wo g (ix2 r c) = rms (proj (row x r) (row y r) (mat wo)) (row g 0) c := by
  pointwise [val_main_v17, val_main_v16, val_main_v15, val_main_v14, val_main_v13, val_main_v12, val_main_v11, val_main_v10,
    val_main_v9, val_main_v8, val_main_v7, val_main_v6, val_main_v5, val_main_v4, val_main_cst, val_main_cst_0, val_main_cst_1, v3_at, rms]

/-- One hidden unit. -/
theorem v23_at (k : Fin 2816) : val_main_v23 (F := Ideal) x y wo g wg wu (ix2 r k)
    = act (rms (proj (row x r) (row y r) (mat wo)) (row g 0)) (mat wg) (mat wu) k := by
  pointwise [val_main_v23, val_main_v22, val_main_v21, val_main_v20, val_main_v19, val_main_v18, val_main_call0_v5, val_main_call0_v4,
    val_main_call0_v3, val_main_call0_v2, val_main_call0_v1, val_main_call0_v0, val_main_call0_cst, val_main_call0_cst_0, v17_at]
  rfl

/-- The residual plus the feed-forward network. -/
theorem v26_at : val_main_v26 (F := Ideal) x y wo g wg wu wd (ix2 r c)
    = ffn (proj (row x r) (row y r) (mat wo)) (rms (proj (row x r) (row y r) (mat wo)) (row g 0)) (mat wg) (mat wu) (mat wd) c := by
  pointwise [val_main_v26, val_main_v25, val_main_v24, v23_at, v3_at]
  rfl

/-- The norm before the gate. -/
theorem v40_at : val_main_v40 (F := Ideal) x y wo g wg wu wd g' (ix2 r c)
    = rms (ffn (proj (row x r) (row y r) (mat wo)) (rms (proj (row x r) (row y r) (mat wo)) (row g 0)) (mat wg) (mat wu) (mat wd)) (row g' 0) c := by
  pointwise [val_main_v40, val_main_v39, val_main_v38, val_main_v37, val_main_v36, val_main_v35, val_main_v34, val_main_v33,
    val_main_v32, val_main_v31, val_main_v30, val_main_v29, val_main_v28, val_main_v27, val_main_cst_2, val_main_cst_3, val_main_cst_4, v26_at, rms]

/-- The reference's result at row `r`, column `c`. -/
theorem v52_at : val_main_v52 (F := Ideal) x y p wo g wg wu wd g' wpg wpp (ix2 r c)
    = tailRow (row x r) (row y r) (row p r) (mat wo) (row g 0) (mat wg) (mat wu) (mat wd) (row g' 0) (mat wpg) (mat wpp) c := by
  pointwise [val_main_v52, val_main_v51, val_main_v50, val_main_v49, val_main_v48, val_main_v47, val_main_v46, val_main_v45, val_main_v44,
    val_main_v43, val_main_v42, val_main_v41, val_main_cst_5, val_main_cst_6, v40_at, v26_at]
  rfl

end Cert.TailReference

end
-- ==== Proof.TailValue.lean ====
/- The tail kernel's result array after a run is the reference's term of the same arguments. -/
module

public import proofs.«01_k».proof.Proof.TailKernel
public import proofs.«01_k».proof.Proof.TailReference
public import Idealize.ShloMosaic.Lib.Claim

@[expose] public section

set_option maxRecDepth 16384

noncomputable section

namespace Cert.TailValue

open Cert.TailIdeal Cert.TailIdeal.Gen Cert.TailRow Cert.TailPay Cert.TailParts Cert.TailKernel Idealize.ShloMosaic Idealize.ShloMosaic.TcCoe Idealize.SL.Sem
open Idealize.ShloMosaic.Pipeline (Dat)

variable (m : (ℓ : Loc nD τ sig) → Buf (Elt Ideal) ℓ)

/-- Which block each window stages at point `t`: rows `512 t …` of the three inputs and of the result, and the two gain rows whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The reference's term over the kernel's argument arrays. -/
abbrev Ref (c : Dev nD) := Cert.TailRefIdeal.Read.val_main_v52 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) (m ((c : Thread nD τ).loc main_arg9))
  (m ((c : Thread nD τ).loc main_arg10))

/-- A gain row that goes to a vector and back is itself. -/
theorem row_vector_row (X : FVec Ideal S1x1024 .f32) (h : S1x1024.ShapeCasts S1024) (h' : S1024.ShapeCasts S1x1024) :
    shapeCast S1x1024 (fun i => shapeCast S1024 X h i) h' = X := by
  funext i
  idx_vars i
  pointwise

/-- The gain row of the feed-forward block reaches the kernel unchanged. -/
theorem gain3 (c : Dev nD) : V m c main_v1 = m ((c : Thread nD τ).loc main_arg4) := by
  entry_read; exact row_vector_row _ _ _

/-- The gain row of the gate reaches the kernel unchanged. -/
theorem gain4 (c : Dev nD) : V m c main_v3 = m ((c : Thread nD τ).loc main_arg8) := by
  entry_read; exact row_vector_row _ _ _

/-- The result array holds the reference's term. -/
theorem final (c : Dev nD) : (dats m 0 c).arrAt 5 (cfgs 0).N = Ref m c := by
  refine (dats m 0 c).arrAt_eq_of_covers 5 _ (by decide +kernel) fun t _ y => ?_
  blk_simp
  rw [after0_5]
  idx_vars y
  rw [after, Left]
  have hN : t.val < 32 := lt_of_lt_of_eq t.isLt (show cfg0.N = 32 from N_0)
  have hr : t.val * 512 + y0.val < 16384 := by omega
  refine Eq.trans ?_ (congrArg (Ref m c) (show ix2 (⟨t.val * 512 + y0.val, hr⟩ : Fin 16384) y1 = _ from ?_))
  · refine Eq.trans ?_ (Cert.TailReference.v52_at ..).symm
    rw [V_main_arg3, V_main_arg5, V_main_arg6, V_main_arg7, V_main_arg9, V_main_arg10]
    have e0 : ∀ j, iblk m c 0 t (ix2 y0 j) = m ((c : Thread nD τ).loc main_arg0) (ix2 ⟨t.val * 512 + y0.val, hr⟩ j) := fun j => by blk_ext [iblk, V, idx t]
    have e1 : ∀ j, iblk m c 1 t (ix2 y0 j) = m ((c : Thread nD τ).loc main_arg1) (ix2 ⟨t.val * 512 + y0.val, hr⟩ j) := fun j => by blk_ext [iblk, V, idx t]
    have e2 : ∀ j, iblk m c 2 t (ix2 y0 j) = m ((c : Thread nD τ).loc main_arg2) (ix2 ⟨t.val * 512 + y0.val, hr⟩ j) := fun j => by blk_ext [iblk, V, idx t]
    have e3 : ∀ j, iblk m c 3 t (ix2 0 j) = m ((c : Thread nD τ).loc main_arg4) (ix2 0 j) := fun j => by
      show View.read (Elt Ideal) ((cfg0.win 3).blk t).view (V m c main_v1) (ix2 0 j) = _
      rw [gain3]; blk_ext [idx t]
    have e4 : ∀ j, iblk m c 4 t (ix2 0 j) = m ((c : Thread nD τ).loc main_arg8) (ix2 0 j) := fun j => by
      show View.read (Elt Ideal) ((cfg0.win 4).blk t).view (V m c main_v3) (ix2 0 j) = _
      rw [gain4]; blk_ext [idx t]
    rw [show row (iblk m c 0 t) y0 = _ from funext e0, show row (iblk m c 1 t) y0 = _ from funext e1, show row (iblk m c 2 t) y0 = _ from funext e2,
      show row (iblk m c 3 t) 0 = _ from funext e3, show row (iblk m c 4 t) 0 = _ from funext e4]
  · blk_ext [idx t]

end Cert.TailValue

end
-- ==== Proof.TailSampleKernel.lean ====
/- What a grid point of the tail kernel leaves at the sample's shapes. The block of rows and the body are those of the
   prompt's call, so its lemmas about one block are used as they stand; only the number of points is another. -/
module

public import proofs.«01_k».proof.Proof.TailParts
public import proofs.«01_k».proof.Proof.Gen.TailSampleIdeal.Frame

@[expose] public section

set_option maxRecDepth 16384

noncomputable section

namespace Cert.TailSampleKernel

open Cert.TailSampleIdeal Cert.TailSampleIdeal.Gen Cert.TailRow Cert.TailPay Cert.TailParts Cert.Loads Idealize.ShloMosaic Idealize.ShloMosaic.TcCoe Idealize.SL.Sem
open Idealize.ShloMosaic.Pipeline (Dat)

variable (m : (ℓ : Loc nD τ sig) → Buf (Elt Ideal) ℓ)

/-- Every later point: the row function of its own rows, at the weights the point before left. -/
theorem after_B (c : Dev nD) (t : Fin cfg0.N) (h0 : ¬t.val % 4 = 0) (h1 : 1 ≤ t.val) (r : Fin 512) (k : Fin 1024) :
    (outsAt0 m c t.val t.isLt).1 (ix2 r k) = Left (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 r k := by
  rw [outsAt0_B m c t h0 h1]
  generalize outsAt0 m c (t.val - 1) (Nat.lt_of_le_of_lt (Nat.sub_le _ _) t.isLt) = S
  obtain ⟨-, s0, s1, s2, s3, s4, s5⟩ := S
  frame_out
  simp only [read_unread_whole]
  canon_tiles x h
  · idx_vars x
    obtain rfl : r = ⟨256 + x0.val, Nat.add_lt_add_left x0.isLt 256⟩ := Fin.ext h0
    obtain rfl : k = x1 := Fin.ext h1
    refine (lower_B (w := s0) (g := iblk m c 3 t) (ha := rfl) (hb := rfl) (hz := rfl) ..).trans ?_
    exact left_of_parts k parts_held (fun _ => ld_at _ rfl (Nat.zero_add _).symm) (fun _ => ld_at _ rfl (Nat.zero_add _).symm)
  · idx_vars x
    obtain rfl : r = ⟨x0.val, Nat.lt_of_lt_of_le x0.isLt (by decide)⟩ := Fin.ext h0
    obtain rfl : k = x1 := Fin.ext h1
    refine (upper_B ..).trans ?_
    exact left_of_parts k parts_held (fun _ => ld_at _ (Nat.zero_add _).symm (Nat.zero_add _).symm) (fun _ => ld_at _ (Nat.zero_add _).symm (Nat.zero_add _).symm)

/-- The first point's landed copies are the weights. -/
theorem scratch_A (c : Dev nD) (t : Fin cfg0.N) (h0 : t.val % 4 = 0) (h1 : ¬1 ≤ t.val) :
    (outsAt0 m c t.val t.isLt).2 = (V m c main_arg3, V m c main_arg5, V m c main_arg6, V m c main_arg7, V m c main_arg10, V m c main_arg9) := by
  rw [outsAt0_A m c t h0 h1]
  refine Prod.ext ?_ (Prod.ext ?_ (Prod.ext ?_ (Prod.ext ?_ (Prod.ext ?_ ?_)))) <;> frame_out
  · exact (fills_whole _).canon
  · exact Fills.canon ⟨View.cover_of_tiledBy _ ![1024, 256] (by sl_kernel_rfl), fun _ => rfl, fun _ => rfl, trivial⟩
  · exact Fills.canon ⟨View.cover_of_tiledBy _ ![1024, 256] (by sl_kernel_rfl), fun _ => rfl, fun _ => rfl, trivial⟩
  · exact Fills.canon ⟨View.cover_of_tiledBy _ ![256, 1024] (by sl_kernel_rfl), fun _ => rfl, fun _ => rfl, trivial⟩
  · exact (fills_whole _).canon
  · exact (fills_whole _).canon

/-- The first point: the row function of its own rows, at the weights. -/
theorem after_A (c : Dev nD) (t : Fin cfg0.N) (h0 : t.val % 4 = 0) (h1 : ¬1 ≤ t.val) (r : Fin 512) (k : Fin 1024) :
    (outsAt0 m c t.val t.isLt).1 (ix2 r k) = Left (iblk m c 0 t) (iblk m c 1 t) (iblk m c 2 t) (iblk m c 3 t) (iblk m c 4 t)
      (V m c main_arg3) (V m c main_arg5) (V m c main_arg6) (V m c main_arg7) (V m c main_arg10) (V m c main_arg9) r k := by
  rw [outsAt0_A m c t h0 h1]
  frame_out
  canon_tiles x h
  · idx_vars x
    obtain rfl : r = ⟨256 + x0.val, Nat.add_lt_add_left x0.isLt 256⟩ := Fin.ext h0
    obtain rfl : k = x1 := Fin.ext h1
    refine (lower_A (g := iblk m c 3 t) (hq := rfl) (hs := rfl) (hz := rfl) ..).trans ?_
    exact left_of_parts k (parts_landed (fills_whole _)
      ⟨View.cover_of_tiledBy _ ![1024, 256] (by sl_kernel_rfl), fun _ => rfl, fun _ => rfl, trivial⟩
      ⟨View.cover_of_tiledBy _ ![1024, 256] (by sl_kernel_rfl), fun _ => rfl, fun _ => rfl, trivial⟩
      ⟨View.cover_of_tiledBy _ ![256, 1024] (by sl_kernel_rfl), fun _ => rfl, fun _ => rfl, trivial⟩
      (fills_whole _) (fills_whole _))
      (fun _ => ld_at _ rfl (Nat.zero_add _).symm) (fun _ => ld_at _ rfl (Nat.zero_add _).symm)
  · idx_vars x
    obtain rfl : r = ⟨x0.val, Nat.lt_of_lt_of_le x0.isLt (by decide)⟩ := Fin.ext h0
    obtain rfl : k = x1 := Fin.ext h1
    refine (upper_A ..).trans ?_
    exact left_of_parts k (parts_landed (fills_whole _)
      ⟨View.cover_of_tiledBy _ ![1024, 256] (by sl_kernel_rfl), fun _ => rfl, fun _ => rfl, trivial⟩
      ⟨View.cover_of_tiledBy _ ![1024, 256] (by sl_kernel_rfl), fun _ => rfl, fun _ => rfl, trivial⟩
      ⟨View.cover_of_tiledBy _ ![256, 1024] (by sl_kernel_rfl), fun _ => rfl, fun _ => rfl, trivial⟩
      (fills_whole _) (fills_whole _))
      (fun _ => ld_at _ (Nat.zero_add _).symm (Nat.zero_add _).symm) (fun _ => ld_at _ (Nat.zero_add _).symm (Nat.zero_add _).symm)

/-- At every point the scratch buffers hold the weights. -/
theorem weights (c : Dev nD) : ∀ (n : ℕ) (hn : n < cfg0.N), (outsAt0 m c n hn).2
    = (V m c main_arg3, V m c main_arg5, V m c main_arg6, V m c main_arg7, V m c main_arg10, V m c main_arg9)
  | 0, hn => scratch_A m c ⟨0, hn⟩ rfl (Nat.not_succ_le_zero 0)
  | n + 1, hn => by
    have hN : n + 1 < 4 := lt_of_lt_of_eq hn (show cfg0.N = 4 from N_0)
    rw [outsAt0_B m c ⟨n + 1, hn⟩ (by show ¬(n + 1) % 4 = 0; omega) (by show 1 ≤ n + 1; omega)]
    exact weights c n (Nat.lt_of_succ_lt hn)

/-- Every point leaves the row function of its own rows, at the weights. -/
theorem after (c : Dev nD) (t : Fin cfg0.N) (r : Fin 512) (k : Fin 1024) :
    (outsAt0 m c t.val t.isLt).1 (ix2 r k) = Left (iblk m c 0 t) (iblk m c 1 t) (iblk m c 2 t) (iblk m c 3 t) (iblk m c 4 t)
      (V m c main_arg3) (V m c main_arg5) (V m c main_arg6) (V m c main_arg7) (V m c main_arg10) (V m c main_arg9) r k := by
  have hN : t.val < 4 := lt_of_lt_of_eq t.isLt (show cfg0.N = 4 from N_0)
  by_cases h : t.val = 0
  · exact after_A m c t (by omega) (by omega) r k
  · rw [after_B m c t (by omega) (by omega) r k, weights]

end Cert.TailSampleKernel

end
-- ==== Proof.TailSampleReference.lean ====
/- The reference of the tail at the sample's shapes, read at one element: row `r` of its result is the same row function
   `TailRow.tailRow` of the arguments' rows `r` and the weights. -/
module

public import proofs.«01_k».proof.Proof.TailReference
public import proofs.«01_k».proof.Proof.Gen.TailSampleRefIdeal.Read

@[expose] public section

set_option maxRecDepth 16384

noncomputable section

namespace Cert.TailSampleReference

open Cert.TailSampleRefIdeal Cert.TailSampleRefIdeal.Gen Cert.TailSampleRefIdeal.Read Cert.TailRow
open Cert.TailReference (row mat)
open Idealize.ShloMosaic Idealize.ShloMosaic.TcCoe Idealize.SL.Sem

variable (x : FVec Ideal S2048x1024 .f32) (y : FVec Ideal S2048x1024 .bf16) (p : FVec Ideal S2048x256 .f32)
  (wo : FVec Ideal S1024x1024 .bf16) (g : FVec Ideal S1x1024 .f32) (wg wu : FVec Ideal S1024x2816 .bf16)
  (wd : FVec Ideal S2816x1024 .bf16) (g' : FVec Ideal S1x1024 .f32) (wpg : FVec Ideal S1024x1024 .bf16)
  (wpp : FVec Ideal S256x1024 .bf16) (r : Fin 2048) (c : Fin 1024)

/-- The residual plus the output projection. -/
theorem v3_at : val_main_v3 (F := Ideal) x y wo (ix2 r c) = proj (row x r) (row y r) (mat wo) c := by
  pointwise [val_main_v3, val_main_v2, val_main_v1, val_main_v0, proj, dot]

/-- Its norm. -/
theorem v17_at : val_main_v17 (F := Ideal) x y wo g (ix2 r c) = rms (proj (row x r) (row y r) (mat wo)) (row g 0) c := by
  pointwise [val_main_v17, val_main_v16, val_main_v15, val_main_v14, val_main_v13, val_main_v12, val_main_v11, val_main_v10,
    val_main_v9, val_main_v8, val_main_v7, val_main_v6, val_main_v5, val_main_v4, val_main_cst, val_main_cst_0, val_main_cst_1, v3_at, rms]

/-- One hidden unit. -/
theorem v23_at (k : Fin 2816) : val_main_v23 (F := Ideal) x y wo g wg wu (ix2 r k)
    = act (rms (proj (row x r) (row y r) (mat wo)) (row g 0)) (mat wg) (mat wu) k := by
  pointwise [val_main_v23, val_main_v22, val_main_v21, val_main_v20, val_main_v19, val_main_v18, val_main_call0_v5, val_main_call0_v4,
    val_main_call0_v3, val_main_call0_v2, val_main_call0_v1, val_main_call0_v0, val_main_call0_cst, val_main_call0_cst_0, v17_at]
  rfl

/-- The residual plus the feed-forward network. -/
theorem v26_at : val_main_v26 (F := Ideal) x y wo g wg wu wd (ix2 r c)
    = ffn (proj (row x r) (row y r) (mat wo)) (rms (proj (row x r) (row y r) (mat wo)) (row g 0)) (mat wg) (mat wu) (mat wd) c := by
  pointwise [val_main_v26, val_main_v25, val_main_v24, v23_at, v3_at]
  rfl

/-- The norm before the gate. -/
theorem v40_at : val_main_v40 (F := Ideal) x y wo g wg wu wd g' (ix2 r c)
    = rms (ffn (proj (row x r) (row y r) (mat wo)) (rms (proj (row x r) (row y r) (mat wo)) (row g 0)) (mat wg) (mat wu) (mat wd)) (row g' 0) c := by
  pointwise [val_main_v40, val_main_v39, val_main_v38, val_main_v37, val_main_v36, val_main_v35, val_main_v34, val_main_v33,
    val_main_v32, val_main_v31, val_main_v30, val_main_v29, val_main_v28, val_main_v27, val_main_cst_2, val_main_cst_3, val_main_cst_4, v26_at, rms]

/-- The reference's result at row `r`, column `c`. -/
theorem v52_at : val_main_v52 (F := Ideal) x y p wo g wg wu wd g' wpg wpp (ix2 r c)
    = tailRow (row x r) (row y r) (row p r) (mat wo) (row g 0) (mat wg) (mat wu) (mat wd) (row g' 0) (mat wpg) (mat wpp) c := by
  pointwise [val_main_v52, val_main_v51, val_main_v50, val_main_v49, val_main_v48, val_main_v47, val_main_v46, val_main_v45, val_main_v44,
    val_main_v43, val_main_v42, val_main_v41, val_main_cst_5, val_main_cst_6, v40_at, v26_at]
  rfl

end Cert.TailSampleReference

end
-- ==== Proof.TailSampleValue.lean ====
/- At the sample's shapes too the tail kernel's result array after a run is the reference's term of the same arguments. -/
module

public import proofs.«01_k».proof.Proof.TailSampleKernel
public import proofs.«01_k».proof.Proof.TailValue
public import proofs.«01_k».proof.Proof.TailSampleReference
public import Idealize.ShloMosaic.Lib.Claim

@[expose] public section

set_option maxRecDepth 2048

noncomputable section

namespace Cert.TailSampleValue

open Cert.TailSampleIdeal Cert.TailSampleIdeal.Gen Cert.TailRow Cert.TailPay Cert.TailParts Cert.TailSampleKernel Idealize.ShloMosaic Idealize.ShloMosaic.TcCoe Idealize.SL.Sem
open Cert.TailValue (row_vector_row)
open Idealize.ShloMosaic.Pipeline (Dat)

variable (m : (ℓ : Loc nD τ sig) → Buf (Elt Ideal) ℓ)

/-- Which block each window stages at point `t`: rows `512 t …` of the three inputs and of the result, and the two gain rows whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The reference's term over the kernel's argument arrays. -/
abbrev Ref (c : Dev nD) := Cert.TailSampleRefIdeal.Read.val_main_v52 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) (m ((c : Thread nD τ).loc main_arg9))
  (m ((c : Thread nD τ).loc main_arg10))

/-- The gain row of the feed-forward block reaches the kernel unchanged. -/
theorem gain3 (c : Dev nD) : V m c main_v1 = m ((c : Thread nD τ).loc main_arg4) := by
  entry_read; exact row_vector_row _ _ _

/-- The gain row of the gate reaches the kernel unchanged. -/
theorem gain4 (c : Dev nD) : V m c main_v3 = m ((c : Thread nD τ).loc main_arg8) := by
  entry_read; exact row_vector_row _ _ _

/-- The result array holds the reference's term. -/
theorem final (c : Dev nD) : (dats m 0 c).arrAt 5 (cfgs 0).N = Ref m c := by
  refine (dats m 0 c).arrAt_eq_of_covers 5 _ (by decide +kernel) fun t _ y => ?_
  blk_simp
  rw [after0_5]
  idx_vars y
  rw [after, Left]
  have hN : t.val < 4 := lt_of_lt_of_eq t.isLt (show cfg0.N = 4 from N_0)
  have hr : t.val * 512 + y0.val < 2048 := by omega
  refine Eq.trans ?_ (congrArg (Ref m c) (show ix2 (⟨t.val * 512 + y0.val, hr⟩ : Fin 2048) y1 = _ from ?_))
  · refine Eq.trans ?_ (Cert.TailSampleReference.v52_at ..).symm
    rw [V_main_arg3, V_main_arg5, V_main_arg6, V_main_arg7, V_main_arg9, V_main_arg10]
    have e0 : ∀ j, iblk m c 0 t (ix2 y0 j) = m ((c : Thread nD τ).loc main_arg0) (ix2 ⟨t.val * 512 + y0.val, hr⟩ j) := fun j => by blk_ext [iblk, V, idx t]
    have e1 : ∀ j, iblk m c 1 t (ix2 y0 j) = m ((c : Thread nD τ).loc main_arg1) (ix2 ⟨t.val * 512 + y0.val, hr⟩ j) := fun j => by blk_ext [iblk, V, idx t]
    have e2 : ∀ j, iblk m c 2 t (ix2 y0 j) = m ((c : Thread nD τ).loc main_arg2) (ix2 ⟨t.val * 512 + y0.val, hr⟩ j) := fun j => by blk_ext [iblk, V, idx t]
    have e3 : ∀ j, iblk m c 3 t (ix2 0 j) = m ((c : Thread nD τ).loc main_arg4) (ix2 0 j) := fun j => by
      show View.read (Elt Ideal) ((cfg0.win 3).blk t).view (V m c main_v1) (ix2 0 j) = _
      rw [gain3]; blk_ext [idx t]
    have e4 : ∀ j, iblk m c 4 t (ix2 0 j) = m ((c : Thread nD τ).loc main_arg8) (ix2 0 j) := fun j => by
      show View.read (Elt Ideal) ((cfg0.win 4).blk t).view (V m c main_v3) (ix2 0 j) = _
      rw [gain4]; blk_ext [idx t]
    rw [show row (iblk m c 0 t) y0 = _ from funext e0, show row (iblk m c 1 t) y0 = _ from funext e1, show row (iblk m c 2 t) y0 = _ from funext e2,
      show row (iblk m c 3 t) 0 = _ from funext e3, show row (iblk m c 4 t) 0 = _ from funext e4]
  · blk_ext [idx t]

end Cert.TailSampleValue

end
-- ==== Proof.MixPay.lean ====
/- The retention half of the mixing kernel at one element: the chunk's output, its gated norm and the state after the chunk,
   as functions of the vectors the kernel loads for one stream and one head. -/
module

public import proofs.«01_k».proof.Proof.Gen.MixIdeal.Skeleton
public import Idealize.ShloMosaic.Lib.Pointwise
public import Idealize.ShloMosaic.PureOps.Ideal.Laws

@[expose] public section

set_option maxRecDepth 16384

noncomputable section

namespace Cert.MixPay

open Cert.MixIdeal Cert.MixIdeal.Gen Idealize.ShloMosaic Idealize.ShloMosaic.TcCoe Idealize.SL.Sem

/-! ## The functions of one row -/

/-- An element of the state after a chunk: the decayed state plus the keys' and values' sum over the chunk, each key weighed
    by the decay from its place to the chunk's end. -/
def newState (cd : EReal) (k z v : Fin 64 → EReal) (r : EReal) : EReal := r * cd + ∑ m, (k m * z m) * v m

/-- An element of the chunk's output: the masked scores of the row against the chunk's keys, times the values, plus the row
    against the state before the chunk, decayed to the row's place. -/
def retain (q : Fin 128 → EReal) (K : Fin 64 → Fin 128 → EReal) (D v : Fin 64 → EReal) (R : Fin 128 → EReal) (x : EReal) : EReal :=
  (∑ m, ((∑ d, q d * K m d) * D m) * v m) + (∑ d, q d * R d) * x

/-- The gated norm of a row over one head's channels. -/
def gated (o : Fin 128 → EReal) (g w : EReal) (e : Fin 128) : EReal :=
  g * ((o e * Ideal.rsqrt (Ideal.div (∑ d, o d * o d) (Ideal.ofBits .f32 0x43000000#32) + Ideal.ofBits .f32 0x358637BD#32)) * w)

/-! ## The kernel's operations for one stream and one head -/

/-- The state after the chunk, as the kernel computes it. -/
def stateOf (cd : Ideal .f32) (k v : FVec Ideal S64x128 .bf16) (r : FVec Ideal S1x1x128x128 .f32) (z : FVec Ideal S64x128 .f32) :
    FVec Ideal S1x1x128x128 .f32 :=
  shapeCast S1x1x128x128
    (addf (mulf (shapeCast S128x128 r shapeCasts_S1x1x128x128_S128x128) (broadcast S128x128 cd))
      (matmul dot_S64x128_S64x128_S128x128_0_0_1_1_n_n none (truncf .bf16 (mulf (extf .f32 k bitsLt_bf16_f32) z) bitsLt_bf16_f32) v
        (constant S128x128 .f32 0x00000000#32)))
    shapeCasts_S128x128_S1x1x128x128

/-- The chunk's output, as the kernel computes it. -/
def retOf (q k v : FVec Ideal S64x128 .bf16) (r : FVec Ideal S1x1x128x128 .f32) (D : FVec Ideal S1x64x64 .f32) (x : FVec Ideal S64x128 .f32) :
    FVec Ideal S64x128 .f32 :=
  addf
    (matmul dot_S64x64_S64x128_S64x128_1_0_0_1_n_n none
      (truncf .bf16 (mulf (matmul dot_S64x128_S64x128_S64x64_1_1_0_0_n_n none q k (constant S64x64 .f32 0x00000000#32))
        (shapeCast S64x64 D shapeCasts_S1x64x64_S64x64)) bitsLt_bf16_f32) v (constant S64x128 .f32 0x00000000#32))
    (mulf (matmul dot_S64x128_S128x128_S64x128_1_0_0_1_n_n none q
      (truncf .bf16 (shapeCast S128x128 r shapeCasts_S1x1x128x128_S128x128) bitsLt_bf16_f32) (constant S64x128 .f32 0x00000000#32)) x)

/-- The gated norm, as the kernel computes it. -/
def gateOf (o : FVec Ideal S64x128 .f32) (g : FVec Ideal S64x128 .bf16) (w : FVec Ideal S1x128 .f32) : FVec Ideal S64x128 .bf16 :=
  k0_pay357 o (k0_pay356 g) w

theorem stateOf_at (cd : Ideal .f32) (k v : FVec Ideal S64x128 .bf16) (r : FVec Ideal S1x1x128x128 .f32) (z : FVec Ideal S64x128 .f32)
    (d e : Fin 128) :
    stateOf cd k v r z (ix4 0 0 d e)
      = newState cd (fun m => k (ix2 m d)) (fun m => z (ix2 m d)) (fun m => v (ix2 m e)) (r (ix4 0 0 d e)) := by
  pointwise [stateOf, newState]

theorem retOf_at (q k v : FVec Ideal S64x128 .bf16) (r : FVec Ideal S1x1x128x128 .f32) (D : FVec Ideal S1x64x64 .f32)
    (x : FVec Ideal S64x128 .f32) (n : Fin 64) (e : Fin 128) :
    retOf q k v r D x (ix2 n e)
      = retain (fun d => q (ix2 n d)) (fun m d => k (ix2 m d)) (fun m => D (ix3 0 n m)) (fun m => v (ix2 m e))
          (fun d => r (ix4 0 0 d e)) (x (ix2 n e)) := by
  pointwise [retOf, retain]

theorem gateOf_at (o : FVec Ideal S64x128 .f32) (g : FVec Ideal S64x128 .bf16) (w : FVec Ideal S1x128 .f32) (n : Fin 64) (e : Fin 128) :
    gateOf o g w (ix2 n e) = gated (fun d => o (ix2 n d)) (g (ix2 n e)) (w (ix2 0 e)) e := by
  pointwise [gateOf, gated, k0_pay357, k0_pay356]

/-! ## Equal arguments -/

theorem newState_congr {cd cd' : EReal} {k k' z z' v v' : Fin 64 → EReal} {r r' : EReal} (hc : cd = cd') (hk : ∀ n, k n = k' n)
    (hz : ∀ n, z n = z' n) (hv : ∀ n, v n = v' n) (hr : r = r') : newState cd k z v r = newState cd' k' z' v' r' := by
  rw [hc, funext hk, funext hz, funext hv, hr]

theorem retain_congr {q q' : Fin 128 → EReal} {K K' : Fin 64 → Fin 128 → EReal} {D D' v v' : Fin 64 → EReal} {R R' : Fin 128 → EReal}
    {x x' : EReal} (hq : ∀ d, q d = q' d) (hK : ∀ n d, K n d = K' n d) (hD : ∀ n, D n = D' n) (hv : ∀ n, v n = v' n)
    (hR : ∀ d, R d = R' d) (hx : x = x') : retain q K D v R x = retain q' K' D' v' R' x' := by
  rw [funext hq, funext fun n => funext (hK n), funext hD, funext hv, funext hR, hx]

theorem gated_congr {o o' : Fin 128 → EReal} {g g' w w' : EReal} (ho : ∀ d, o d = o' d) (hg : g = g') (hw : w = w') (e : Fin 128) :
    gated o g w e = gated o' g' w' e := by
  rw [funext ho, hg, hw]

end Cert.MixPay

end
-- ==== Proof.MixDecay.lean ====
/- The decays of the retention: the kernel's tables and the reference's arrays, each as a real exponential of a head's rate. -/
module

public import proofs.«01_k».proof.Proof.MixPay

@[expose] public section

set_option maxRecDepth 16384

noncomputable section

namespace Cert.MixDecay

open Cert.MixIdeal Cert.MixIdeal.Gen Idealize.ShloMosaic Idealize.ShloMosaic.TcCoe Idealize.SL.Sem

/-- The logarithm of a head's decay per token. -/
def rate (h : Fin 4) : ℝ := ![Real.log (31 / 32), Real.log (63 / 64), Real.log (127 / 128), Real.log (255 / 256)] h

/-- The decay of `k` tokens. -/
def decay (r : ℝ) (k : ℝ) : EReal := ((Real.exp (k * r) : ℝ) : EReal)

/-- The decay from token `m` to token `n` of a chunk, and nothing for a later `m`. -/
def causal (r : ℝ) (n m : Fin 64) : EReal := if m ≤ n then decay r ((n.val : ℝ) - (m.val : ℝ)) else 0

/-! ## The kernel's tables -/

/-- The table of causal decays at a rate. -/
def dmatOf (c : Ideal .f32) : FVec Ideal S1x64x64 .f32 :=
  shapeCast S1x64x64
    (select (cmpf .oge (k0_pay2 (F := Ideal)) (broadcast S64x64 (Scalar.ofBits .f32 0x00000000#32)))
      (exp (mulf (maximumf (k0_pay2 (F := Ideal)) (broadcast S64x64 (Scalar.ofBits .f32 0x00000000#32))) (broadcast S64x64 c)))
      (broadcast S64x64 (Scalar.ofBits .f32 0x00000000#32)))
    shapeCasts_S64x64_S1x64x64

/-- The table of decays up to and with a token. -/
def xiOf (c : Ideal .f32) : FVec Ideal S64x128 .f32 :=
  shapeCast S64x128 (exp (mulf (addf (k0_pay3 (F := Ideal)) (broadcast S64x128 (Scalar.ofBits .f32 0x3F800000#32))) (broadcast S64x128 c)))
    shapeCasts_S64x128_S64x128

/-- The table of decays from a token to the chunk's end. -/
def zetaOf (c : Ideal .f32) : FVec Ideal S64x128 .f32 :=
  shapeCast S64x128 (exp (mulf (subf (broadcast S64x128 (Scalar.ofBits .f32 0x427C0000#32)) (k0_pay3 (F := Ideal))) (broadcast S64x128 c)))
    shapeCasts_S64x128_S64x128

theorem ofBits_0 : Ideal.ofBits .f32 0x00000000#32 = ((0 : ℝ) : EReal) := by
  simp [Ideal.ofBits, Ideal.ieee]
theorem ofBits_1 : Ideal.ofBits .f32 0x3F800000#32 = ((1 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_neg5 : Ideal.ofBits .f32 0xC0A00000#32 = ((-5 : ℝ) : EReal) := by
  simp [Ideal.ofBits, Ideal.ieee, -EReal.coe_mul]; norm_num

/-- A place in a chunk, as the integer the kernel counts with. -/
theorem place_toInt (n : Fin 64) : (BitVec.ofNat 32 n.val).toInt = (n.val : ℤ) := by
  revert n; decide

theorem sub_toInt (n m : Fin 64) : (BitVec.ofNat 32 n.val - BitVec.ofNat 32 m.val).toInt = (n.val : ℤ) - (m.val : ℤ) := by
  have hn := place_toInt n
  have hm := place_toInt m
  rw [BitVec.toInt_sub, hn, hm, Int.bmod_eq_of_le] <;> omega

/-- A place in a chunk as a number. -/
theorem place (n : Fin 64) : (FloatOps.sitofp FTy.f32 (BitVec.ofNat 32 n.val) : Ideal .f32) = ((n.val : ℝ) : EReal) := by
  show (((BitVec.ofNat 32 n.val).toInt : ℝ) : EReal) = _
  rw [place_toInt]; rfl

/-- The distance of two places, taken as integers. -/
theorem distance (n m : Fin 64) :
    (FloatOps.sitofp FTy.f32 (IntOp.subi (BitVec.ofNat 32 n.val) (BitVec.ofNat 32 m.val)) : Ideal .f32) = (((n.val : ℝ) - (m.val : ℝ) : ℝ) : EReal) := by
  show (((BitVec.ofNat 32 n.val - BitVec.ofNat 32 m.val).toInt : ℝ) : EReal) = _
  rw [sub_toInt]; push_cast; rfl

/-- The exponential of a number of tokens times the rate. -/
theorem exp_mul (k r : ℝ) : Ideal.exp ((k : EReal) * (r : EReal)) = decay r k := by
  rw [← EReal.coe_mul, Ideal.exp_coe]; rfl

/-- A causal decay, in the words both programs compute it. -/
theorem causal_eq (r : ℝ) (n m : Fin 64) :
    (if (0 : EReal) ≤ (((n.val : ℝ) - (m.val : ℝ) : ℝ) : EReal) then
      Ideal.exp (max (((n.val : ℝ) - (m.val : ℝ) : ℝ) : EReal) 0 * (r : EReal)) else 0) = causal r n m := by
  have hle : ((0 : EReal) ≤ (((n.val : ℝ) - (m.val : ℝ) : ℝ) : EReal)) ↔ m ≤ n := by
    rw [← EReal.coe_zero, EReal.coe_le_coe_iff, sub_nonneg, Nat.cast_le, Fin.le_def]
  by_cases h : m ≤ n
  · rw [if_pos (hle.mpr h), max_eq_left (hle.mpr h), exp_mul, causal, if_pos h]
  · rw [if_neg (fun h' => h (hle.mp h')), causal, if_neg h]

theorem zetaOf_at (r : ℝ) (m : Fin 64) (d : Fin 128) : zetaOf (r : EReal) (ix2 m d) = decay r (63 - m.val) := by
  pointwise [zetaOf, k0_pay3]
  rw [place, ofBits_63, ← EReal.coe_sub, exp_mul]

theorem xiOf_at (r : ℝ) (m : Fin 64) (d : Fin 128) : xiOf (r : EReal) (ix2 m d) = decay r (m.val + 1) := by
  pointwise [xiOf, k0_pay3]
  rw [place, ← EReal.coe_one, ← EReal.coe_add, exp_mul]

theorem dmatOf_at (r : ℝ) (n m : Fin 64) : dmatOf (r : EReal) (ix3 0 n m) = causal r n m := by
  pointwise [dmatOf, k0_pay2]
  simp only [distance]
  exact causal_eq r n m

/-! ## The rates -/

/-- The reference's rate of a head is the real one. -/
theorem rate_eq (h : Fin 4) :
    Ideal.log1p (-(Ideal.pow ((2 : ℝ) : EReal) (((-5 : ℝ) : EReal) - ((h.val : ℝ) : EReal)))) = ((rate h : ℝ) : EReal) := by
  have hp : Real.rpow 2 (-5 - (h.val : ℝ)) = 1 / 2 ^ (5 + h.val) := by
    show (2 : ℝ) ^ (-5 - (h.val : ℝ)) = _
    rw [show (-5 - (h.val : ℝ)) = -((5 + h.val : ℕ) : ℝ) by push_cast; ring, Real.rpow_neg (by norm_num), Real.rpow_natCast, one_div]
  rw [← EReal.coe_sub, Ideal.pow_coe_coe, hp, Ideal.log1p, ← EReal.coe_neg, ← EReal.coe_one, ← EReal.coe_add]
  have hpos : (0 : ℝ) < 1 + -(1 / 2 ^ (5 + h.val)) := by fin_cases h <;> norm_num
  rw [Ideal.log_coe, if_neg (not_le.mpr hpos)]
  fin_cases h <;> norm_num [rate]

/-- A head's decay over a whole chunk, as the kernel names it. -/
theorem chunk_eq (h : Fin 4) (q : ℝ) (hq : q = (![31 / 32, 63 / 64, 127 / 128, 255 / 256] h : ℝ) ^ 64) : decay (rate h) 64 = (q : EReal) := by
  have hr : Real.exp (rate h) = (![31 / 32, 63 / 64, 127 / 128, 255 / 256] h : ℝ) := by
    fin_cases h <;> exact Real.exp_log (by norm_num)
  rw [decay, hq, ← hr, ← Real.exp_nat_mul]; norm_num

theorem decay0 : Named.named (F := Ideal) Cert.MixIdeal.κ "decay0" (φ := .f32) 0xBD020AEC#32 = ((rate 0 : ℝ) : EReal) :=
  IdealRules.named_const.ideal_named_scalar _ _ _ _ rfl
theorem decay1 : Named.named (F := Ideal) Cert.MixIdeal.κ "decay1" (φ := .f32) 0xBC8102B3#32 = ((rate 1 : ℝ) : EReal) :=
  IdealRules.named_const.ideal_named_scalar _ _ _ _ rfl
theorem decay2 : Named.named (F := Ideal) Cert.MixIdeal.κ "decay2" (φ := .f32) 0xBC0080AC#32 = ((rate 2 : ℝ) : EReal) :=
  IdealRules.named_const.ideal_named_scalar _ _ _ _ rfl
theorem decay3 : Named.named (F := Ideal) Cert.MixIdeal.κ "decay3" (φ := .f32) 0xBB80402B#32 = ((rate 3 : ℝ) : EReal) :=
  IdealRules.named_const.ideal_named_scalar _ _ _ _ rfl
theorem chunk0 : Named.named (F := Ideal) Cert.MixIdeal.κ "decay_chunk0" (φ := .f32) 0x3E063AE5#32 = decay (rate 0) 64 :=
  (IdealRules.named_const.ideal_named_scalar _ _ _ _ rfl).trans (chunk_eq 0 _ (by norm_num)).symm
theorem chunk1 : Named.named (F := Ideal) Cert.MixIdeal.κ "decay_chunk1" (φ := .f32) 0x3EBADF84#32 = decay (rate 1) 64 :=
  (IdealRules.named_const.ideal_named_scalar _ _ _ _ rfl).trans (chunk_eq 1 _ (by norm_num)).symm
theorem chunk2 : Named.named (F := Ideal) Cert.MixIdeal.κ "decay_chunk2" (φ := .f32) 0x3F1AF7A1#32 = decay (rate 2) 64 :=
  (IdealRules.named_const.ideal_named_scalar _ _ _ _ rfl).trans (chunk_eq 2 _ (by show (_ : ℝ) = (127 / 128) ^ 64; norm_num)).symm
theorem chunk3 : Named.named (F := Ideal) Cert.MixIdeal.κ "decay_chunk3" (φ := .f32) 0x3F474682#32 = decay (rate 3) 64 :=
  (IdealRules.named_const.ideal_named_scalar _ _ _ _ rfl).trans (chunk_eq 3 _ (by show (_ : ℝ) = (255 / 256) ^ 64; norm_num)).symm

end Cert.MixDecay

end
-- ==== Proof.MixReference.lean ====
/- The reference of the retention, read at one element: one stream, one head, one token, one channel. -/
module

public import proofs.«01_k».proof.Proof.MixDecay
public import proofs.«01_k».proof.Proof.Gen.MixRefIdeal.Read

@[expose] public section

set_option maxRecDepth 16384

noncomputable section

namespace Cert.MixReference

open Cert.MixRefIdeal Cert.MixRefIdeal.Gen Cert.MixRefIdeal.Read Cert.MixPay Cert.MixDecay
open Idealize.ShloMosaic Idealize.ShloMosaic.TcCoe Idealize.SL.Sem

/-- The row of token `t` of stream `n`. -/
def tok (n : Fin 32) (t : Fin 64) : Fin 2048 := ⟨n.val * 64 + t.val, by omega⟩

/-- The column of channel `d` of head `h`. -/
def chan (h : Fin 4) (d : Fin 128) : Fin 512 := ⟨h.val * 128 + d.val, by omega⟩

/-- An element of the chunk's output from the whole arrays. -/
def retainAt (q k v : FVec Ideal S2048x512 .bf16) (R : FVec Ideal S1x32x4x128x128 .f32) (n : Fin 32) (h : Fin 4) (t : Fin 64) (e : Fin 128) : EReal :=
  retain (fun d => q (ix2 (tok n t) (chan h d))) (fun m d => k (ix2 (tok n m) (chan h d))) (fun m => causal (rate h) t m)
    (fun m => v (ix2 (tok n m) (chan h e))) (fun d => R (ix5 0 n h d e)) (decay (rate h) (t.val + 1))

/-- An element of the gated norm from the whole arrays. -/
def mixedAt (q k v g : FVec Ideal S2048x512 .bf16) (R : FVec Ideal S1x32x4x128x128 .f32) (w : FVec Ideal S1x4x128 .f32)
    (n : Fin 32) (h : Fin 4) (t : Fin 64) (e : Fin 128) : EReal :=
  gated (retainAt q k v R n h t) (g (ix2 (tok n t) (chan h e))) (w (ix3 0 h e)) e

/-- An element of the state after the chunk from the whole arrays. -/
def stateAt (k v : FVec Ideal S2048x512 .bf16) (R : FVec Ideal S1x32x4x128x128 .f32) (n : Fin 32) (h : Fin 4) (d e : Fin 128) : EReal :=
  newState (decay (rate h) 64) (fun m => k (ix2 (tok n m) (chan h d))) (fun m => decay (rate h) (63 - m.val))
    (fun m => v (ix2 (tok n m) (chan h e))) (R (ix5 0 n h d e))

variable (q k v g : FVec Ideal S2048x512 .bf16) (R : FVec Ideal S1x32x4x128x128 .f32) (w : FVec Ideal S1x4x128 .f32)
  (n : Fin 32) (h : Fin 4) (t m : Fin 64) (d e : Fin 128)

theorem v0_at : val_main_v0 (F := Ideal) R (ix4 n h d e) = R (ix5 0 n h d e) := by
  pointwise [val_main_v0]
theorem v2_at : val_main_v2 (F := Ideal) q (ix4 n t h d) = q (ix2 (tok n t) (chan h d)) := by
  pointwise [val_main_v2, val_main_v1]; rfl
theorem v4_at : val_main_v4 (F := Ideal) q (ix4 n t h d) = q (ix2 (tok n t) (chan h d)) := by
  pointwise [val_main_v4, val_main_v3]; rfl
theorem v6_at : val_main_v6 (F := Ideal) q (ix4 n t h d) = q (ix2 (tok n t) (chan h d)) := by
  pointwise [val_main_v6, val_main_v5]; rfl

/-- A head's place as a number. -/
theorem head (h : Fin 4) : (FloatOps.sitofp FTy.f32 (BitVec.ofNat 32 h.val) : Ideal .f32) = ((h.val : ℝ) : EReal) := by
  show (((BitVec.ofNat 32 h.val).toInt : ℝ) : EReal) = _
  rw [show (BitVec.ofNat 32 h.val).toInt = (h.val : ℤ) by revert h; decide]; rfl

/-! ## The decays -/

theorem v13_at : val_main_v13 (F := Ideal) (ix1 h) = ((rate h : ℝ) : EReal) := by
  pointwise [val_main_v13, val_main_v12, val_main_v11, val_main_v10, val_main_v9, val_main_v8, val_main_v7, val_main_cst, val_main_cst_0]
  rw [head, ofBits_2, ofBits_neg5]
  exact rate_eq h

theorem v31_at : val_main_v31 (F := Ideal) (ix3 h t m) = causal (rate h) t m := by
  pointwise [val_main_v31, val_main_call0_v2, val_main_call0_v1, val_main_call0_v0, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_cst_1, val_main_cst_2, val_main_cst_3, v13_at, id_eq]
  simp only [place, ← EReal.coe_sub, id_eq]
  pointwise [constant]
  exact causal_eq (rate h) t m

theorem v61_at : val_main_v61 (F := Ideal) (ix1 h) = decay (rate h) 64 := by
  pointwise [val_main_v61, val_main_v60, val_main_v59, val_main_cst_6, v13_at]
  rw [ofBits_64, exp_mul]

theorem v45_at : val_main_v45 (F := Ideal) (ix2 t h) = decay (rate h) (t.val + 1) := by
  pointwise [val_main_v45, val_main_v44, val_main_v43, val_main_v42, val_main_v41, val_main_v40, val_main_v39, val_main_v38, val_main_v14, val_main_cst_4, v13_at]
  rw [place, ← EReal.coe_one, ← EReal.coe_add, exp_mul]

theorem v58_at : val_main_v58 (F := Ideal) (ix2 t h) = decay (rate h) (63 - t.val) := by
  pointwise [val_main_v58, val_main_v57, val_main_v56, val_main_v55, val_main_v54, val_main_v53, val_main_v52, val_main_v51, val_main_v14, val_main_cst_5, v13_at]
  rw [place, ofBits_63, ← EReal.coe_sub, exp_mul]

/-! ## The retention -/

theorem v69_at : val_main_v69 (F := Ideal) k v R (ix4 n h d e) = stateAt k v R n h d e := by
  pointwise [val_main_v69, val_main_v68, val_main_v67, val_main_v66, val_main_v65, val_main_v64, val_main_v63, val_main_v62,
    v0_at, v4_at, v6_at, v61_at, v58_at, stateAt, newState]
  rw [mul_comm (decay _ _) (R _)]

theorem v70_at : val_main_v70 (F := Ideal) q k v R (ix4 n t h e) = retainAt q k v R n h t e := by
  pointwise [val_main_v70, val_main_v50, val_main_v49, val_main_v48, val_main_v47, val_main_v46, val_main_v37, val_main_v36,
    val_main_v35, val_main_v34, val_main_v33, val_main_v32, v0_at, v2_at, v4_at, v6_at, v31_at, v45_at, retainAt, retain]
  simp only [mul_comm (v _), mul_comm (R _)]

theorem v88_at : val_main_v88 (F := Ideal) q k v g R w (ix2 (tok n t) (chan h e)) = mixedAt q k v g R w n h t e := by
  pointwise [val_main_v88, val_main_v87, val_main_v86, val_main_v85, val_main_v84, val_main_v83, val_main_v82, val_main_v81, val_main_v80,
    val_main_v79, val_main_v78, val_main_v77, val_main_v76, val_main_v75, val_main_v74, val_main_v73, val_main_v72, val_main_v71,
    val_main_cst_7, val_main_cst_8, val_main_cst_9, v70_at, tok, chan, mixedAt, gated]

end Cert.MixReference

end
-- ==== Proof.MixKernel.lean ====
/- What a grid point of the mixing kernel leaves in its retention half and in the state, and the arrays after the run. -/
module

public import proofs.«01_k».proof.Proof.MixReference
public import proofs.«01_k».proof.Proof.Loads
public import proofs.«01_k».proof.Proof.Gen.MixIdeal.Frame

@[expose] public section

set_option maxRecDepth 16384

noncomputable section

namespace Cert.MixKernel

open Cert.MixIdeal Cert.MixIdeal.Gen Cert.MixPay Cert.MixDecay Cert.Loads Idealize.ShloMosaic Idealize.ShloMosaic.TcCoe Idealize.SL.Sem
open Idealize.ShloMosaic.Pipeline (Dat)
open Cert.MixReference (chan)

variable (m : (ℓ : Loc nD τ sig) → Buf (Elt Ideal) ℓ)

/-- The row of token `t` of a block's stream `b`. -/
def brow (b : Fin 2) (t : Fin 64) : Fin 128 := ⟨b.val * 64 + t.val, by omega⟩

/-- What a point leaves in its block of the state. -/
def stateLeft (x1 x2 : FVec Ideal S128x512 .bf16) (x10 : FVec Ideal S2x4x128x128 .f32) (b : Fin 2) (a : Fin 4) (d e : Fin 128) : EReal :=
  newState (decay (rate a) 64) (fun n => x1 (ix2 (brow b n) (chan a d))) (fun n => decay (rate a) (63 - n.val))
    (fun n => x2 (ix2 (brow b n) (chan a e))) (x10 (ix4 b a d e))

/-- What a point leaves in the retention half of its block. -/
def mixedLeft (x0 x1 x2 x3 : FVec Ideal S128x512 .bf16) (x10 : FVec Ideal S2x4x128x128 .f32) (x11 : FVec Ideal S1x512 .f32)
    (b : Fin 2) (a : Fin 4) (n : Fin 64) (e : Fin 128) : EReal :=
  gated (fun e => retain (fun d => x0 (ix2 (brow b n) (chan a d))) (fun n d => x1 (ix2 (brow b n) (chan a d))) (fun l => causal (rate a) n l)
      (fun n => x2 (ix2 (brow b n) (chan a e))) (fun d => x10 (ix4 b a d e)) (decay (rate a) (n.val + 1)))
    (x3 (ix2 (brow b n) (chan a e))) (x11 (ix2 0 (chan a e))) e

/-! ## One stored piece -/

/-- A stored piece of the state, at an element. -/
theorem state_tile {x1 x2 : FVec Ideal S128x512 .bf16} {x10 : FVec Ideal S2x4x128x128 .f32} {o p ob oa : ℕ}
    {i1 i2 : ∀ a, (![o, p] : Fin 2 → ℕ) a + (![64, 128] : Fin 2 → ℕ) a ≤ (⟨2, ![128, 512]⟩ : Shape).size a}
    {i10 : ∀ a, (![ob, oa, 0, 0] : Fin 4 → ℕ) a + (![1, 1, 128, 128] : Fin 4 → ℕ) a ≤ (⟨4, ![2, 4, 128, 128]⟩ : Shape).size a}
    {c : Ideal .f32} {z : FVec Ideal S64x128 .f32} {P : FVec Ideal S1x1x128x128 .f32} (b : Fin 2) (a : Fin 4) (hc : c = decay (rate a) 64)
    (hP : P = stateOf c (View.ld (Val := Elt Ideal) (e' := .bf16) x1 (Rect.unit (s := ⟨2, ![128, 512]⟩) ![o, p] ![64, 128] i1))
      (View.ld (Val := Elt Ideal) (e' := .bf16) x2 (Rect.unit (s := ⟨2, ![128, 512]⟩) ![o, p] ![64, 128] i2))
      (View.ld (Val := Elt Ideal) (e' := .f32) x10 (Rect.unit (s := ⟨4, ![2, 4, 128, 128]⟩) ![ob, oa, 0, 0] ![1, 1, 128, 128] i10)) z)
    (ho : o = b.val * 64) (hp : p = a.val * 128) (hb : ob = b.val) (ha : oa = a.val) (hz : ∀ n d, z (ix2 n d) = decay (rate a) (63 - n.val))
    {i j : Fin 1} {d e d' e' : Fin 128} {b' : Fin 2} {a' : Fin 4} (h0 : b'.val = ob + i.val) (h1 : a'.val = oa + j.val)
    (h2 : d'.val = d.val) (h3 : e'.val = e.val) :
    P (ix4 i j d e) = stateLeft x1 x2 x10 b' a' d' e' := by
  obtain rfl : i = 0 := Subsingleton.elim _ _
  obtain rfl : j = 0 := Subsingleton.elim _ _
  obtain rfl : b' = b := Fin.ext (h0.trans hb)
  obtain rfl : a' = a := Fin.ext (h1.trans ha)
  obtain rfl : d' = d := Fin.ext h2
  obtain rfl : e' = e := Fin.ext h3
  subst ho hp hb ha hP
  rw [stateOf_at]
  exact newState_congr hc (fun n => ld_at _ rfl rfl) (fun n => hz n _) (fun n => ld_at _ rfl rfl)
    (ld_at4 _ rfl rfl (Nat.zero_add _).symm (Nat.zero_add _).symm)

/-- A stored piece of the retention half, at an element. -/
theorem mixed_tile {x0 x1 x2 x3 : FVec Ideal S128x512 .bf16} {x10 : FVec Ideal S2x4x128x128 .f32} {x11 : FVec Ideal S1x512 .f32} {o p ob oa : ℕ}
    {i0 i1 i2 i3 : ∀ a, (![o, p] : Fin 2 → ℕ) a + (![64, 128] : Fin 2 → ℕ) a ≤ (⟨2, ![128, 512]⟩ : Shape).size a}
    {i10 : ∀ a, (![ob, oa, 0, 0] : Fin 4 → ℕ) a + (![1, 1, 128, 128] : Fin 4 → ℕ) a ≤ (⟨4, ![2, 4, 128, 128]⟩ : Shape).size a}
    {i11 : ∀ a, (![0, p] : Fin 2 → ℕ) a + (![1, 128] : Fin 2 → ℕ) a ≤ (⟨2, ![1, 512]⟩ : Shape).size a}
    {D : FVec Ideal S1x64x64 .f32} {X : FVec Ideal S64x128 .f32} {P : FVec Ideal S64x128 .bf16} (b : Fin 2) (a : Fin 4)
    (hP : P = gateOf (retOf (View.ld (Val := Elt Ideal) (e' := .bf16) x0 (Rect.unit (s := ⟨2, ![128, 512]⟩) ![o, p] ![64, 128] i0))
        (View.ld (Val := Elt Ideal) (e' := .bf16) x1 (Rect.unit (s := ⟨2, ![128, 512]⟩) ![o, p] ![64, 128] i1))
        (View.ld (Val := Elt Ideal) (e' := .bf16) x2 (Rect.unit (s := ⟨2, ![128, 512]⟩) ![o, p] ![64, 128] i2))
        (View.ld (Val := Elt Ideal) (e' := .f32) x10 (Rect.unit (s := ⟨4, ![2, 4, 128, 128]⟩) ![ob, oa, 0, 0] ![1, 1, 128, 128] i10)) D X)
      (View.ld (Val := Elt Ideal) (e' := .bf16) x3 (Rect.unit (s := ⟨2, ![128, 512]⟩) ![o, p] ![64, 128] i3))
      (View.ld (Val := Elt Ideal) (e' := .f32) x11 (Rect.unit (s := ⟨2, ![1, 512]⟩) ![0, p] ![1, 128] i11)))
    (ho : o = b.val * 64) (hp : p = a.val * 128) (hb : ob = b.val) (ha : oa = a.val)
    (hD : ∀ n l, D (ix3 0 n l) = causal (rate a) n l) (hX : ∀ n e, X (ix2 n e) = decay (rate a) (n.val + 1))
    {n n' : Fin 64} {e e' : Fin 128} {b' : Fin 2} {a' : Fin 4} (h0 : b'.val * 64 + n'.val = o + n.val) (h1 : a'.val * 128 + e'.val = p + e.val) :
    P (ix2 n e) = mixedLeft x0 x1 x2 x3 x10 x11 b' a' n' e' := by
  obtain rfl : b' = b := Fin.ext (by omega)
  obtain rfl : a' = a := Fin.ext (by omega)
  obtain rfl : n' = n := Fin.ext (by omega)
  obtain rfl : e' = e := Fin.ext (by omega)
  subst ho hp hb ha hP
  rw [gateOf_at]
  refine gated_congr (fun e => (retOf_at _ _ _ _ _ _ _ _).trans (retain_congr (fun d => ld_at _ rfl rfl) (fun n d => ld_at _ rfl rfl)
    (fun l => hD _ l) (fun n => ld_at _ rfl rfl) (fun d => ld_at4 _ rfl rfl (Nat.zero_add _).symm (Nat.zero_add _).symm) (hX _ _)))
    (ld_at _ rfl rfl) (ld_at _ rfl rfl) _

/-! ## The tables -/

theorem zeta_tile {c : Ideal .f32} {Z : FVec Ideal S64x128 .f32} (a : Fin 4) (hc : c = ((rate a : ℝ) : EReal)) (hZ : Z = zetaOf c) (n : Fin 64)
    (d : Fin 128) : Z (ix2 n d) = decay (rate a) (63 - n.val) := by
  rw [hZ, hc]; exact zetaOf_at (rate a) n d

theorem xi_tile {c : Ideal .f32} {X : FVec Ideal S64x128 .f32} (a : Fin 4) (hc : c = ((rate a : ℝ) : EReal)) (hX : X = xiOf c) (n : Fin 64)
    (d : Fin 128) : X (ix2 n d) = decay (rate a) (n.val + 1) := by
  rw [hX, hc]; exact xiOf_at (rate a) n d

theorem dmat_tile {c : Ideal .f32} {D : FVec Ideal S1x64x64 .f32} (a : Fin 4) (hc : c = ((rate a : ℝ) : EReal)) (hD : D = dmatOf c) (n l : Fin 64) :
    D (ix3 0 n l) = causal (rate a) n l := by
  rw [hD, hc]; exact dmatOf_at (rate a) n l

theorem dmat_piece {c : Ideal .f32} {D : FVec Ideal S1x64x64 .f32} (a : Fin 4) (hc : c = ((rate a : ℝ) : EReal)) (hD : D = dmatOf c) {i : Fin 1}
    {n l n' l' : Fin 64} {a' : Fin 4} (h0 : a'.val = a.val + i.val) (h1 : n'.val = n.val) (h2 : l'.val = l.val) :
    D (ix3 i n l) = causal (rate a') n' l' := by
  obtain rfl : i = 0 := Subsingleton.elim _ _
  obtain rfl : a' = a := Fin.ext h0
  obtain rfl : n' = n := Fin.ext h1
  obtain rfl : l' = l := Fin.ext h2
  exact dmat_tile _ hc hD _ _

theorem xi_piece {c : Ideal .f32} {X : FVec Ideal S64x128 .f32} (a : Fin 4) (hc : c = ((rate a : ℝ) : EReal)) (hX : X = xiOf c) {n n' : Fin 64}
    {d d' : Fin 128} {a' : Fin 4} (h0 : n'.val = n.val) (h1 : a'.val * 128 + d'.val = a.val * 128 + d.val) :
    X (ix2 n d) = decay (rate a') (n'.val + 1) := by
  obtain rfl : a' = a := Fin.ext (by omega)
  obtain rfl : n' = n := Fin.ext h0
  exact xi_tile _ hc hX _ _

theorem zeta_piece {c : Ideal .f32} {Z : FVec Ideal S64x128 .f32} (a : Fin 4) (hc : c = ((rate a : ℝ) : EReal)) (hZ : Z = zetaOf c) {n n' : Fin 64}
    {d d' : Fin 128} {a' : Fin 4} (h0 : n'.val = n.val) (h1 : a'.val * 128 + d'.val = a.val * 128 + d.val) :
    Z (ix2 n d) = decay (rate a') (63 - n'.val) := by
  obtain rfl : a' = a := Fin.ext (by omega)
  obtain rfl : n' = n := Fin.ext h0
  exact zeta_tile _ hc hZ _ _

/-- The tables as every point has them: for each head, a row's decay to the chunk's end, a row's decay from the chunk's start, and the decay between
    two rows. -/
structure Tables (dm : FVec Ideal S4x64x64 .f32) (xi zt : FVec Ideal S64x512 .f32) : Prop where
  dmat : ∀ (a : Fin 4) (n l : Fin 64), dm (ix3 a n l) = causal (rate a) n l
  xi : ∀ (a : Fin 4) (n : Fin 64) (d : Fin 128), xi (ix2 n (chan a d)) = decay (rate a) (n.val + 1)
  zeta : ∀ (a : Fin 4) (n : Fin 64) (d : Fin 128), zt (ix2 n (chan a d)) = decay (rate a) (63 - n.val)

section Loaded

variable {dm : FVec Ideal S4x64x64 .f32} {xi zt : FVec Ideal S64x512 .f32} (tb : Tables dm xi zt) (a : Fin 4) {p : ℕ}

include tb

theorem zeta_load (hp : p = a.val * 128) (inb : ∀ a, (![0, p] : Fin 2 → ℕ) a + (![64, 128] : Fin 2 → ℕ) a ≤ (⟨2, ![64, 512]⟩ : Shape).size a)
    (n : Fin 64) (d : Fin 128) :
    View.ld (Val := Elt Ideal) (e' := .f32) zt (Rect.unit (s := ⟨2, ![64, 512]⟩) ![0, p] ![64, 128] inb) (ix2 n d) = decay (rate a) (63 - n.val) := by
  subst hp; exact (ld_at _ (i' := n) (j' := chan a d) (Nat.zero_add _).symm rfl).trans (tb.zeta a n d)

theorem xi_load (hp : p = a.val * 128) (inb : ∀ a, (![0, p] : Fin 2 → ℕ) a + (![64, 128] : Fin 2 → ℕ) a ≤ (⟨2, ![64, 512]⟩ : Shape).size a)
    (n : Fin 64) (d : Fin 128) :
    View.ld (Val := Elt Ideal) (e' := .f32) xi (Rect.unit (s := ⟨2, ![64, 512]⟩) ![0, p] ![64, 128] inb) (ix2 n d) = decay (rate a) (n.val + 1) := by
  subst hp; exact (ld_at _ (i' := n) (j' := chan a d) (Nat.zero_add _).symm rfl).trans (tb.xi a n d)

theorem dmat_load (hp : p = a.val) (inb : ∀ a, (![p, 0, 0] : Fin 3 → ℕ) a + (![1, 64, 64] : Fin 3 → ℕ) a ≤ (⟨3, ![4, 64, 64]⟩ : Shape).size a)
    (n l : Fin 64) :
    View.ld (Val := Elt Ideal) (e' := .f32) dm (Rect.unit (s := ⟨3, ![4, 64, 64]⟩) ![p, 0, 0] ![1, 64, 64] inb) (ix3 0 n l) = causal (rate a) n l := by
  subst hp; exact (ld_at3 _ (i' := a) (j' := n) (r' := l) rfl (Nat.zero_add _).symm (Nat.zero_add _).symm).trans (tb.dmat a n l)

end Loaded

/-- The kernel's block, at the retention half's columns. -/
def half (X : FVec Ideal S128x1024 .bf16) (b : Fin 2) (a : Fin 4) (n : Fin 64) (e : Fin 128) : EReal :=
  X (ix2 (brow b n) ⟨a.val * 128 + e.val, by omega⟩)

/-! ## The first point of a half of the grid -/

section First

variable (c : Dev nD) (t : Fin cfg0.N) (t0 : t.val % 16 = 0)

include t0

theorem state_A (b : Fin 2) (a : Fin 4) (d e : Fin 128) :
    (outsAt0 m c t.val t.isLt).2.1 (ix4 b a d e) = stateLeft (iblk m c 1 t) (iblk m c 2 t) (iblk m c 10 t) b a d e := by
  rw [outsAt0_A m c t t0]
  frame_out
  simp (disch := decide) only [↓ View.readCov_skip, ↓ View.readCov_cons_toLoadRect, ↓ View.readCov_fill]
  canon_tiles x h <;> idx_vars x
  · exact state_tile 1 3 chunk3 rfl rfl rfl rfl rfl (zeta_tile 3 decay3 rfl) h0 h1 h2 h3
  · exact state_tile 1 2 chunk2 rfl rfl rfl rfl rfl (zeta_tile 2 decay2 rfl) h0 h1 h2 h3
  · exact state_tile 1 1 chunk1 rfl rfl rfl rfl rfl (zeta_tile 1 decay1 rfl) h0 h1 h2 h3
  · exact state_tile 1 0 chunk0 rfl rfl rfl rfl rfl (zeta_tile 0 decay0 rfl) h0 (h1.trans (Nat.zero_add _).symm) h2 h3
  · exact state_tile 0 3 chunk3 rfl rfl rfl rfl rfl (zeta_tile 3 decay3 rfl) (h0.trans (Nat.zero_add _).symm) h1 h2 h3
  · exact state_tile 0 2 chunk2 rfl rfl rfl rfl rfl (zeta_tile 2 decay2 rfl) (h0.trans (Nat.zero_add _).symm) h1 h2 h3
  · exact state_tile 0 1 chunk1 rfl rfl rfl rfl rfl (zeta_tile 1 decay1 rfl) (h0.trans (Nat.zero_add _).symm) h1 h2 h3
  · exact state_tile 0 0 chunk0 rfl rfl rfl rfl rfl (zeta_tile 0 decay0 rfl) (h0.trans (Nat.zero_add _).symm) (h1.trans (Nat.zero_add _).symm) h2 h3

set_option maxHeartbeats 2000000 in
theorem mixed_A (b : Fin 2) (a : Fin 4) (n : Fin 64) (e : Fin 128) :
    half (outsAt0 m c t.val t.isLt).1 b a n e
      = mixedLeft (iblk m c 0 t) (iblk m c 1 t) (iblk m c 2 t) (iblk m c 3 t) (iblk m c 10 t) (iblk m c 11 t) b a n e := by
  rw [outsAt0_A m c t t0]
  unfold half
  frame_out
  simp (disch := decide) only [↓ View.readCov_skip, ↓ View.readCov_cons_toLoadRect, ↓ View.readCov_fill]
  canon_tiles x h <;> idx_vars x
  all_goals first
    | (exfalso
       replace h1 : a.val * 128 + e.val = _ := h1
       omega)
    | skip
  · exact mixed_tile 1 3 rfl rfl rfl rfl rfl (dmat_tile 3 decay3 rfl) (xi_tile 3 decay3 rfl) h0 h1
  · exact mixed_tile 1 2 rfl rfl rfl rfl rfl (dmat_tile 2 decay2 rfl) (xi_tile 2 decay2 rfl) h0 h1
  · exact mixed_tile 1 1 rfl rfl rfl rfl rfl (dmat_tile 1 decay1 rfl) (xi_tile 1 decay1 rfl) h0 h1
  · exact mixed_tile 1 0 rfl rfl rfl rfl rfl (dmat_tile 0 decay0 rfl) (xi_tile 0 decay0 rfl) h0 (h1.trans (Nat.zero_add _).symm)
  · exact mixed_tile 0 3 rfl rfl rfl rfl rfl (dmat_tile 3 decay3 rfl) (xi_tile 3 decay3 rfl) (h0.trans (Nat.zero_add _).symm) h1
  · exact mixed_tile 0 2 rfl rfl rfl rfl rfl (dmat_tile 2 decay2 rfl) (xi_tile 2 decay2 rfl) (h0.trans (Nat.zero_add _).symm) h1
  · exact mixed_tile 0 1 rfl rfl rfl rfl rfl (dmat_tile 1 decay1 rfl) (xi_tile 1 decay1 rfl) (h0.trans (Nat.zero_add _).symm) h1
  · exact mixed_tile 0 0 rfl rfl rfl rfl rfl (dmat_tile 0 decay0 rfl) (xi_tile 0 decay0 rfl) (h0.trans (Nat.zero_add _).symm) (h1.trans (Nat.zero_add _).symm)

theorem tables_A : Tables (outsAt0 m c t.val t.isLt).2.2.2.1 (outsAt0 m c t.val t.isLt).2.2.2.2.1 (outsAt0 m c t.val t.isLt).2.2.2.2.2 := by
  rw [outsAt0_A m c t t0]
  refine ⟨fun a n l => ?_, fun a n d => ?_, fun a n d => ?_⟩
  · frame_out
    canon_tiles x h <;> idx_vars x
    · exact dmat_piece 3 decay3 rfl h0 h1 h2
    · exact dmat_piece 2 decay2 rfl h0 h1 h2
    · exact dmat_piece 1 decay1 rfl h0 h1 h2
    · exact dmat_piece 0 decay0 rfl (h0.trans (Nat.zero_add _).symm) h1 h2
  · frame_out
    canon_tiles x h <;> idx_vars x
    · exact xi_piece 3 decay3 rfl h0 h1
    · exact xi_piece 2 decay2 rfl h0 h1
    · exact xi_piece 1 decay1 rfl h0 h1
    · exact xi_piece 0 decay0 rfl h0 (h1.trans (Nat.zero_add _).symm)
  · frame_out
    canon_tiles x h <;> idx_vars x
    · exact zeta_piece 3 decay3 rfl h0 h1
    · exact zeta_piece 2 decay2 rfl h0 h1
    · exact zeta_piece 1 decay1 rfl h0 h1
    · exact zeta_piece 0 decay0 rfl h0 (h1.trans (Nat.zero_add _).symm)

end First

/-! ## A point after the first of its half of the grid -/

section Later

variable (c : Dev nD) (t : Fin cfg0.N) (t0 : ¬t.val % 16 = 0)

/-- What the point before left. -/
abbrev before := outsAt0 m c (t.val - 1) (Nat.lt_of_le_of_lt (Nat.sub_le _ _) t.isLt)

include t0

theorem state_B (tb : Tables (before m c t).2.2.2.1 (before m c t).2.2.2.2.1 (before m c t).2.2.2.2.2) (b : Fin 2) (a : Fin 4) (d e : Fin 128) :
    (outsAt0 m c t.val t.isLt).2.1 (ix4 b a d e) = stateLeft (iblk m c 1 t) (iblk m c 2 t) (iblk m c 10 t) b a d e := by
  rw [outsAt0_B m c t t0]
  revert tb
  rw [before]
  generalize outsAt0 m c (t.val - 1) (Nat.lt_of_le_of_lt (Nat.sub_le _ _) t.isLt) = S
  obtain ⟨-, -, s0, s1, s2, s3⟩ := S
  intro tb
  frame_out
  simp only [read_unread_whole]
  canon_tiles x h <;> idx_vars x
  · exact state_tile 1 3 chunk3 rfl rfl rfl rfl rfl (zeta_load tb 3 rfl _) h0 h1 h2 h3
  · exact state_tile 1 2 chunk2 rfl rfl rfl rfl rfl (zeta_load tb 2 rfl _) h0 h1 h2 h3
  · exact state_tile 1 1 chunk1 rfl rfl rfl rfl rfl (zeta_load tb 1 rfl _) h0 h1 h2 h3
  · exact state_tile 1 0 chunk0 rfl rfl rfl rfl rfl (zeta_load tb 0 rfl _) h0 (h1.trans (Nat.zero_add _).symm) h2 h3
  · exact state_tile 0 3 chunk3 rfl rfl rfl rfl rfl (zeta_load tb 3 rfl _) (h0.trans (Nat.zero_add _).symm) h1 h2 h3
  · exact state_tile 0 2 chunk2 rfl rfl rfl rfl rfl (zeta_load tb 2 rfl _) (h0.trans (Nat.zero_add _).symm) h1 h2 h3
  · exact state_tile 0 1 chunk1 rfl rfl rfl rfl rfl (zeta_load tb 1 rfl _) (h0.trans (Nat.zero_add _).symm) h1 h2 h3
  · exact state_tile 0 0 chunk0 rfl rfl rfl rfl rfl (zeta_load tb 0 rfl _) (h0.trans (Nat.zero_add _).symm) (h1.trans (Nat.zero_add _).symm) h2 h3

theorem tables_B (tb : Tables (before m c t).2.2.2.1 (before m c t).2.2.2.2.1 (before m c t).2.2.2.2.2) :
    Tables (outsAt0 m c t.val t.isLt).2.2.2.1 (outsAt0 m c t.val t.isLt).2.2.2.2.1 (outsAt0 m c t.val t.isLt).2.2.2.2.2 := by
  rw [outsAt0_B m c t t0]; exact tb

theorem mixed_B (tb : Tables (before m c t).2.2.2.1 (before m c t).2.2.2.2.1 (before m c t).2.2.2.2.2) (b : Fin 2) (a : Fin 4) (n : Fin 64) (e : Fin 128) :
    half (outsAt0 m c t.val t.isLt).1 b a n e
      = mixedLeft (iblk m c 0 t) (iblk m c 1 t) (iblk m c 2 t) (iblk m c 3 t) (iblk m c 10 t) (iblk m c 11 t) b a n e := by
  rw [outsAt0_B m c t t0]
  revert tb
  rw [before]
  generalize outsAt0 m c (t.val - 1) (Nat.lt_of_le_of_lt (Nat.sub_le _ _) t.isLt) = S
  obtain ⟨-, -, s0, s1, s2, s3⟩ := S
  intro tb
  unfold half
  frame_out
  simp only [read_unread_whole]
  canon_tiles x h <;> idx_vars x
  all_goals first
    | (exfalso
       replace h1 : a.val * 128 + e.val = _ := h1
       omega)
    | skip
  · exact mixed_tile 1 3 rfl rfl rfl rfl rfl (dmat_load tb 3 rfl _) (xi_load tb 3 rfl _) h0 h1
  · exact mixed_tile 1 2 rfl rfl rfl rfl rfl (dmat_load tb 2 rfl _) (xi_load tb 2 rfl _) h0 h1
  · exact mixed_tile 1 1 rfl rfl rfl rfl rfl (dmat_load tb 1 rfl _) (xi_load tb 1 rfl _) h0 h1
  · exact mixed_tile 1 0 rfl rfl rfl rfl rfl (dmat_load tb 0 rfl _) (xi_load tb 0 rfl _) h0 (h1.trans (Nat.zero_add _).symm)
  · exact mixed_tile 0 3 rfl rfl rfl rfl rfl (dmat_load tb 3 rfl _) (xi_load tb 3 rfl _) (h0.trans (Nat.zero_add _).symm) h1
  · exact mixed_tile 0 2 rfl rfl rfl rfl rfl (dmat_load tb 2 rfl _) (xi_load tb 2 rfl _) (h0.trans (Nat.zero_add _).symm) h1
  · exact mixed_tile 0 1 rfl rfl rfl rfl rfl (dmat_load tb 1 rfl _) (xi_load tb 1 rfl _) (h0.trans (Nat.zero_add _).symm) h1
  · exact mixed_tile 0 0 rfl rfl rfl rfl rfl (dmat_load tb 0 rfl _) (xi_load tb 0 rfl _) (h0.trans (Nat.zero_add _).symm) (h1.trans (Nat.zero_add _).symm)

end Later

/-! ## Every point -/

/-- The first point stores the tables and no later one touches them. -/
theorem tables (c : Dev nD) : ∀ (n : ℕ) (hn : n < cfg0.N), Tables (outsAt0 m c n hn).2.2.2.1 (outsAt0 m c n hn).2.2.2.2.1 (outsAt0 m c n hn).2.2.2.2.2
  | 0, hn => tables_A m c ⟨0, hn⟩ rfl
  | n + 1, hn => by
    have hN : n + 1 < 16 := lt_of_lt_of_eq hn (show cfg0.N = 16 from N_0)
    exact tables_B m c ⟨n + 1, hn⟩ (by show ¬(n + 1) % 16 = 0; omega) (tables c n (Nat.lt_of_succ_lt hn))

theorem state (c : Dev nD) (t : Fin cfg0.N) (b : Fin 2) (a : Fin 4) (d e : Fin 128) :
    (outsAt0 m c t.val t.isLt).2.1 (ix4 b a d e) = stateLeft (iblk m c 1 t) (iblk m c 2 t) (iblk m c 10 t) b a d e := by
  by_cases h : t.val % 16 = 0
  · exact state_A m c t h b a d e
  · exact state_B m c t h (tables m c _ _) b a d e

theorem mixed (c : Dev nD) (t : Fin cfg0.N) (b : Fin 2) (a : Fin 4) (n : Fin 64) (e : Fin 128) :
    half (outsAt0 m c t.val t.isLt).1 b a n e
      = mixedLeft (iblk m c 0 t) (iblk m c 1 t) (iblk m c 2 t) (iblk m c 3 t) (iblk m c 10 t) (iblk m c 11 t) b a n e := by
  by_cases h : t.val % 16 = 0
  · exact mixed_A m c t h b a n e
  · exact mixed_B m c t h (tables m c _ _) b a n e

end Cert.MixKernel

end
-- ==== Proof.MixValue.lean ====
/- The mixing kernel's retention half and state after a run are the reference's terms of the same arguments. -/
module

public import proofs.«01_k».proof.Proof.MixKernel
public import Idealize.ShloMosaic.Lib.Claim

@[expose] public section

set_option maxRecDepth 16384

noncomputable section

namespace Cert.MixValue

open Cert.MixIdeal Cert.MixIdeal.Gen Cert.MixPay Cert.MixDecay Cert.MixKernel Cert.MixReference Idealize.ShloMosaic Idealize.ShloMosaic.TcCoe
open Idealize.SL.Sem
open Idealize.ShloMosaic.Pipeline (Dat)

variable (m : (ℓ : Loc nD τ sig) → Buf (Elt Ideal) ℓ)

/-- Which block each window of the retention stages at point `t`: the rows of its two streams, their states, and the gain row whole. -/
theorem idx : ∀ t : Fin cfg0.N, win0_0.index t = ![t.val, 0] ∧ win0_1.index t = ![t.val, 0] ∧ win0_2.index t = ![t.val, 0]
    ∧ win0_3.index t = ![t.val, 0] ∧ win0_10.index t = ![t.val, 0, 0, 0] ∧ win0_11.index t = ![0, 0] ∧ win0_13.index t = ![t.val, 0]
    ∧ win0_14.index t = ![t.val, 0, 0, 0] :=
  (by decide +kernel : ∀ t : Fin grid0.N, _)

theorem lt_N (t : Fin cfg0.N) : t.val < 16 := lt_of_lt_of_eq t.isLt (show cfg0.N = 16 from N_0)

/-- The stream of a point's place `b`. -/
def stream (t : Fin cfg0.N) (b : Fin 2) : Fin 32 := ⟨t.val * 2 + b.val, by have := lt_N t; omega⟩

variable (c : Dev nD) (t : Fin cfg0.N) (b : Fin 2)

/-- The states reach the kernel with their leading axis dropped. -/
theorem states (n : Fin 32) (a : Fin 4) (d e : Fin 128) : V m c main_v28 (ix4 n a d e) = m ((c : Thread nD τ).loc main_arg9) (ix5 0 n a d e) := by
  simp only [V, V0, hostOps0, hostOps0_1, hostOps0_2, hostOps0_3, hostOps0_4, hostOps0_5, hostOps0_6, List.flatten_cons, List.flatten_nil, List.append_nil, List.cons_append,
      List.nil_append]
  entry_read; pointwise

/-- The gain of the norm reaches the kernel as a row. -/
theorem gains (a : Fin 4) (e : Fin 128) : V m c main_v1 (ix2 0 (chan a e)) = m ((c : Thread nD τ).loc main_arg10) (ix3 0 a e) := by
  simp only [V, V0, hostOps0, hostOps0_1, hostOps0_2, hostOps0_3, hostOps0_4, hostOps0_5, hostOps0_6, List.flatten_cons, List.flatten_nil, List.append_nil, List.cons_append,
      List.nil_append]
  entry_read; pointwise [chan]

theorem row_eq (n : Fin 64) : t.val * 128 + (brow b n).val = (tok (stream t b) n).val := by
  show t.val * 128 + (b.val * 64 + n.val) = (t.val * 2 + b.val) * 64 + n.val
  omega

theorem blk0 (n : Fin 64) (k : Fin 512) : iblk m c 0 t (ix2 (brow b n) k) = m ((c : Thread nD τ).loc main_arg0) (ix2 (tok (stream t b) n) k) := by
  blk_ext [iblk, V, idx t]
  exact row_eq t b n

theorem blk1 (n : Fin 64) (k : Fin 512) : iblk m c 1 t (ix2 (brow b n) k) = m ((c : Thread nD τ).loc main_arg1) (ix2 (tok (stream t b) n) k) := by
  blk_ext [iblk, V, idx t]
  exact row_eq t b n

theorem blk2 (n : Fin 64) (k : Fin 512) : iblk m c 2 t (ix2 (brow b n) k) = m ((c : Thread nD τ).loc main_arg2) (ix2 (tok (stream t b) n) k) := by
  blk_ext [iblk, V, idx t]
  exact row_eq t b n

theorem blk3 (n : Fin 64) (k : Fin 512) : iblk m c 3 t (ix2 (brow b n) k) = m ((c : Thread nD τ).loc main_arg3) (ix2 (tok (stream t b) n) k) := by
  blk_ext [iblk, V, idx t]
  exact row_eq t b n

theorem blk10 (a : Fin 4) (d e : Fin 128) : iblk m c 10 t (ix4 b a d e) = m ((c : Thread nD τ).loc main_arg9) (ix5 0 (stream t b) a d e) := by
  refine Eq.trans ?_ (states m c (stream t b) a d e)
  show View.read (Elt Ideal) ((cfg0.win 10).blk t).view (V m c main_v28) (ix4 b a d e) = _
  blk_ext [idx t]
  rfl

theorem blk11 (a : Fin 4) (e : Fin 128) : iblk m c 11 t (ix2 0 (chan a e)) = m ((c : Thread nD τ).loc main_arg10) (ix3 0 a e) := by
  refine Eq.trans ?_ (gains m c a e)
  show View.read (Elt Ideal) ((cfg0.win 11).blk t).view (V m c main_v1) (ix2 0 (chan a e)) = _
  blk_ext [idx t]

/-- The reference's state over the kernel's argument arrays. -/
abbrev RefState := Cert.MixRefIdeal.Read.val_main_v69 (F := Ideal) (m ((c : Thread nD τ).loc main_arg1)) (m ((c : Thread nD τ).loc main_arg2))
  (m ((c : Thread nD τ).loc main_arg9))

/-- The reference's gated retention over the kernel's argument arrays. -/
abbrev RefMixed := Cert.MixRefIdeal.Read.val_main_v88 (F := Ideal) (m ((c : Thread nD τ).loc main_arg0)) (m ((c : Thread nD τ).loc main_arg1))
  (m ((c : Thread nD τ).loc main_arg2)) (m ((c : Thread nD τ).loc main_arg3)) (m ((c : Thread nD τ).loc main_arg9)) (m ((c : Thread nD τ).loc main_arg10))

/-- The state after a run is the reference's. -/
theorem final_state : (dats m 0 c).arrAt 14 (cfgs 0).N = RefState m c := by
  refine (dats m 0 c).arrAt_eq_of_covers 14 _ (by decide +kernel) fun t _ y => ?_
  blk_simp
  rw [after0_14]
  idx_vars y
  rw [state, stateLeft]
  refine Eq.trans ?_ (congrArg (RefState m c) (show ix4 (stream t y0) y1 y2 y3 = _ from ?_))
  · exact (newState_congr rfl (fun n => blk1 m c t y0 n _) (fun _ => rfl) (fun n => blk2 m c t y0 n _) (blk10 m c t y0 _ _ _)).trans (v69_at ..).symm
  · blk_ext [idx t]
    rfl

/-- An element of the retention half that a point leaves. -/
theorem mixed_point (a : Fin 4) (n : Fin 64) (e : Fin 128) :
    half (outsAt0 m c t.val t.isLt).1 b a n e = RefMixed m c (ix2 (tok (stream t b) n) (chan a e)) := by
  rw [mixed, mixedLeft]
  refine (gated_congr (fun e => retain_congr (fun d => blk0 m c t b n _) (fun n d => blk1 m c t b n _) (fun _ => rfl) (fun n => blk2 m c t b n _)
    (fun d => blk10 m c t b _ _ _) rfl) (blk3 m c t b n _) (blk11 m c t a e) e).trans (v88_at ..).symm

/-- A block's row as a stream and a token, and a column as a head and a channel. -/
def stripe (r : Fin 128) : Fin 2 := ⟨r.val / 64, by omega⟩
def place (r : Fin 128) : Fin 64 := ⟨r.val % 64, by omega⟩
def head (k : Fin 512) : Fin 4 := ⟨k.val / 128, by omega⟩
def lane (k : Fin 512) : Fin 128 := ⟨k.val % 128, by omega⟩

theorem row_split (r : Fin 128) : brow (stripe r) (place r) = r := Fin.ext (Nat.div_add_mod' r.val 64)

theorem col_split (k : Fin 512) : chan (head k) (lane k) = k := Fin.ext (Nat.div_add_mod' k.val 128)

theorem tok_split (r : Fin 128) (h : t.val * 128 + r.val < 2048) : tok (stream t (stripe r)) (place r) = ⟨t.val * 128 + r.val, h⟩ :=
  Fin.ext (by show (t.val * 2 + r.val / 64) * 64 + r.val % 64 = t.val * 128 + r.val; omega)

/-- The retention half after a run, column by column. -/
theorem final_half : ∀ i, ∀ k : Fin 512, (i 1).val = k.val → (dats m 0 c).arrAt 13 (cfgs 0).N i = RefMixed m c (ix2 (i 0) k) := by
  refine (dats m 0 c).arrAt_forall_of_covers 13 (fun i v => ∀ k : Fin 512, (i 1).val = k.val → v = RefMixed m c (ix2 (i 0) k)) (by decide +kernel) fun t _ y => ?_
  blk_simp
  rw [after0_13]
  idx_vars y
  intro k hk
  have i1 : win0_13.index t 1 = 0 := by rw [(idx t).2.2.2.2.2.2.1]; rfl
  rw [i1] at hk
  have hN : t.val < 16 := lt_N t
  have hr : t.val * 128 + y0.val < 2048 := by omega
  have hy : ix2 (⟨t.val * 128 + y0.val, hr⟩ : Fin 2048) y1 = ((View.whole main_v29_0).slice (win0_13.rect t)).emb (ix2 y0 y1) := by blk_ext [idx t]
  rw [← hy]
  refine Eq.trans (congrArg (outsAt0 m c t.val t.isLt).1 ?_) ((mixed_point m c t (stripe y0) (head k) (place y0) (lane k)).trans
    (congrArg (RefMixed m c) ?_))
  · rw [row_split]
    refine congrArg (ix2 y0) (Fin.ext ?_)
    show y1.val = k.val / 128 * 128 + k.val % 128
    omega
  · rw [col_split, tok_split]
    rfl

/-- The retention half after a run is the reference's. -/
theorem final_mixed : extractStridedSlice S2048x512 ![0, 0] ((dats m 0 c).arrAt 13 (cfgs 0).N : FVec Ideal S2048x1024 .bf16) slices_S2048x1024_S2048x512_0_0
    = RefMixed m c := by
  funext i
  idx_vars i
  refine Eq.trans (b := (dats m 0 c).arrAt 13 (cfgs 0).N (ix2 i0 (⟨i1.val, by omega⟩ : Fin 1024))) (by pointwise) (final_half m c _ i1 rfl)

/-- The sliced result after a run. -/
theorem final_sliced : Pipeline.afterTail₀ cfgs (dats m) 0 (V0 m) [hostOps1] c main_v30 = RefMixed m c := by
  refine Eq.trans ?_ (final_mixed m c)
  show StableHlo.after hostOps1 _ (Proc.devRef .tc main_v30) = _
  rw [StableHlo.after_cons, StableHlo.after_nil]
  refine (StableHlo.unary_result _ _ _ _ _ _).trans ?_
  refine congrArg (fun X : FVec Ideal S2048x1024 .bf16 => extractStridedSlice S2048x512 ![0, 0] X slices_S2048x1024_S2048x512_0_0) ?_
  exact Pipeline.withArrays_arr (cfgs 0).spec (by decide) c _ _ (13 : Fin 15)

end Cert.MixValue

end
-- ==== Proof.lean ====
/- The proof of the claims about the dense tail, at the prompt's and at the sample's shapes, and about the retention half
   of the mixing: of each, the kernel, its
   idealization and the reference's idealization never fail, the kernel and its idealization are the same program up to
   number formats and the named constants, and the idealized kernel and the idealized reference return the same arrays. -/
module

public import proofs.«01_k».proof.Proof.TailValue
public import proofs.«01_k».proof.Proof.TailSampleValue
public import proofs.«01_k».proof.Proof.MixValue
public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.MixRefIdeal
public import proofs.«01_k».proof.Proof.Gen.MixRefIdeal.Run
public import proofs.«01_k».proof.Proof.Gen.MixRefIdeal.Read
public import proofs.«01_k».proof.Proof.Gen.TailSample
public import proofs.«01_k».proof.Proof.Gen.TailSample.Skeleton
public import proofs.«01_k».proof.Proof.Gen.TailSample.Launch
public import proofs.«01_k».proof.Proof.Gen.TailSample.Points
public import proofs.«01_k».proof.Proof.Gen.TailSample.Frame
public import proofs.«01_k».proof.Proof.Gen.TailSampleIdeal
public import proofs.«01_k».proof.Proof.Gen.TailSampleIdeal.Skeleton
public import proofs.«01_k».proof.Proof.Gen.TailSampleIdeal.Launch
public import proofs.«01_k».proof.Proof.Gen.TailSampleIdeal.Points
public import proofs.«01_k».proof.Proof.Gen.TailSampleIdeal.Frame
public import proofs.«01_k».proof.Proof.Gen.TailSampleRefIdeal
public import proofs.«01_k».proof.Proof.Gen.TailSampleRefIdeal.Run
public import proofs.«01_k».proof.Proof.Gen.TailSampleRefIdeal.Read
public import Idealize.ShloMosaic.Adequacy
public import Idealize.ShloMosaic.Init
public import Idealize.ShloMosaic.Lib.Quiescent

@[expose] public section

noncomputable section

namespace Cert.Proof

open Idealize.ShloMosaic Idealize.SL.Sem Cert.Tail

/-- The tail of the idealized kernel and of the idealized reference. -/
theorem tail : Cert.algebraic_TailIdeal_TailRefIdeal (hTailIdeal := Cert.TailIdeal.Gen.facts) (hTailRefIdeal := Cert.TailRefIdeal.Gen.facts) := by
  pair_intro
  · run_from Cert.TailIdeal.Gen.run_main m g
  · run_from Cert.TailRefIdeal.Value.run m' g'
    obtain ⟨h0, h1, h2, h3, h4, h5, h6, h7, h8, h9, h10⟩ := hagree c
    rw [Cert.TailRefIdeal.Read.val_main_v52_eq, h0, h1, h2, h3, h4, h5, h6, h7, h8, h9, h10]
    exact (Cert.TailValue.final m c).symm

/-- The tail of the idealized kernel and of the idealized reference at the sample's shapes. -/
theorem tail_sample : Cert.algebraic_TailSampleIdeal_TailSampleRefIdeal (hTailSampleIdeal := Cert.TailSampleIdeal.Gen.facts)
    (hTailSampleRefIdeal := Cert.TailSampleRefIdeal.Gen.facts) := by
  pair_intro
  · run_from Cert.TailSampleIdeal.Gen.run_main m g
  · run_from Cert.TailSampleRefIdeal.Value.run m' g'
    obtain ⟨h0, h1, h2, h3, h4, h5, h6, h7, h8, h9, h10⟩ := hagree c
    rw [Cert.TailSampleRefIdeal.Read.val_main_v52_eq, h0, h1, h2, h3, h4, h5, h6, h7, h8, h9, h10]
    exact (Cert.TailSampleValue.final m c).symm

/-- The mixing of the idealized kernel and of the idealized reference: the retention half and the state. -/
theorem mix : Cert.algebraic_MixIdeal_MixRefIdeal (hMixIdeal := Cert.MixIdeal.Gen.facts) (hMixRefIdeal := Cert.MixRefIdeal.Gen.facts) := by
  pair_intro
  · run_from Cert.MixIdeal.Gen.unchanged m g & Cert.MixIdeal.Gen.run_main m g
  · run_from Cert.MixRefIdeal.Value.run m' g'
    all_goals obtain ⟨h0, h1, h2, h3, h4, h5, h6, h7, h8, h9, h10, h11⟩ := hagree c
    · rw [Cert.MixRefIdeal.Read.val_main_v88_eq, h0, h1, h2, h3, h9, h10]
      exact (Cert.MixValue.final_sliced m c).symm
    · rw [Cert.MixRefIdeal.Read.val_main_v69_eq]
      exact (Cert.MixValue.final_state m c).symm

theorem claim : Cert.Claim := ⟨Cert.Tail.Gen.facts, Cert.TailIdeal.Gen.facts, Cert.TailRefIdeal.Gen.facts,
  Cert.Mix.Gen.facts, Cert.MixIdeal.Gen.facts, Cert.MixRefIdeal.Gen.facts,
  Cert.TailSample.Gen.facts, Cert.TailSampleIdeal.Gen.facts, Cert.TailSampleRefIdeal.Gen.facts,
  fun m ρ _ => Cert.Tail.Gen.frame m ρ, fun m ρ _ => Cert.TailIdeal.Gen.frame m ρ, fun m ρ _ => by
    run_from Cert.TailRefIdeal.Value.run m ρ
    · exact fun _ => ⟨trivial, trivial, trivial, trivial, trivial, trivial, trivial, trivial, trivial, trivial, trivial⟩
    · exact sem_eq_zero_of_no_sems rfl _,
  fun m ρ _ => Cert.Mix.Gen.frame m ρ, fun m ρ _ => Cert.MixIdeal.Gen.frame m ρ, fun m ρ _ => by
    run_from Cert.MixRefIdeal.Value.run m ρ
    · exact fun _ => ⟨trivial, trivial, trivial, trivial, trivial, trivial, trivial, trivial, trivial, trivial, trivial, trivial⟩
    · exact sem_eq_zero_of_no_sems rfl _,
  fun m ρ _ => Cert.TailSample.Gen.frame m ρ, fun m ρ _ => Cert.TailSampleIdeal.Gen.frame m ρ, fun m ρ _ => by
    run_from Cert.TailSampleRefIdeal.Value.run m ρ
    · exact fun _ => ⟨trivial, trivial, trivial, trivial, trivial, trivial, trivial, trivial, trivial, trivial, trivial⟩
    · exact sem_eq_zero_of_no_sems rfl _,
  trivial, tail,
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩,
  mix, trivial, tail_sample⟩

end Cert.Proof

end
